-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x9x9x9 : Shape := ⟨4, ![16384, 9, 9, 9]⟩
abbrev S9x9x9x16384 : Shape := ⟨4, ![9, 9, 9, 16384]⟩
abbrev S9x9x128 : Shape := ⟨3, ![9, 9, 128]⟩
abbrev S_ : Shape := ⟨0, ![]⟩
abbrev S9x1x9x128 : Shape := ⟨4, ![9, 1, 9, 128]⟩
abbrev S1x1x16 : Shape := ⟨3, ![1, 1, 16]⟩
abbrev S16 : Shape := ⟨1, ![16]⟩

abbrev nBuf : Table → Nat
  | .hbm => 6
  | .local .scVector .vmem => 6
  | _ => 0

abbrev bufTy : (tb : Table) → Fin (nBuf tb) → BufTy
  | .hbm, ⟨0, _⟩ => ⟨S16384x9x9x9, .f32⟩
  | .hbm, ⟨1, _⟩ => ⟨S16384x9x9x9, .f32⟩
  | .hbm, ⟨2, _⟩ => ⟨S9x9x9x16384, .f32⟩
  | .hbm, ⟨3, _⟩ => ⟨S9x9x9x16384, .f32⟩
  | .hbm, ⟨4, _⟩ => ⟨S9x9x9x16384, .f32⟩
  | .hbm, ⟨5, _⟩ => ⟨S16384x9x9x9, .f32⟩
  | .local .scVector .vmem, ⟨0, _⟩ => ⟨S9x9x128, .f32⟩
  | .local .scVector .vmem, ⟨1, _⟩ => ⟨S9x9x128, .f32⟩
  | .local .scVector .vmem, ⟨2, _⟩ => ⟨S9x9x128, .f32⟩
  | .local .scVector .vmem, ⟨3, _⟩ => ⟨S9x9x128, .f32⟩
  | .local .scVector .vmem, ⟨4, _⟩ => ⟨S9x9x128, .f32⟩
  | .local .scVector .vmem, ⟨5, _⟩ => ⟨S9x9x128, .f32⟩
  | _, _ => ⟨S16384x9x9x9, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 4 → Nat :=
  let c0_i32_11 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.addi c0_i32 v1
  let c36_i32 : BitVec 32 := 36#32
  let v4 : BitVec 32 := Scalar.remsi v3 c36_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c4_i32 : BitVec 32 := 4#32
  let c0_i32_2 : BitVec 32 := 0#32
  let v11 : BitVec 1 := Scalar.cmpi .sgt c4_i32 c0_i32_2
  let v12 : BitVec 32 := Scalar.extui v11
  let c0_i32_3 : BitVec 32 := 0#32
  let v13 : BitVec 1 := Scalar.cmpi .slt c4_i32 c0_i32_3
  let v14 : BitVec 32 := Scalar.extui v13
  let v15 : BitVec 32 := Scalar.subi v12 v14
  let v16 : BitVec 1 := Scalar.cmpi .ne v10 v15
  let v17 : BitVec 32 := Scalar.remsi v4 c4_i32
  let c0_i32_4 : BitVec 32 := 0#32
  let v18 : BitVec 1 := Scalar.cmpi .ne v17 c0_i32_4
  let v19 : BitVec 1 := Scalar.andi v16 v18
  let v5 : BitVec 32 := Scalar.divsi v4 c4_i32
  let c1_i32 : BitVec 32 := 1#32
  let v20 : BitVec 32 := Scalar.subi v5 c1_i32
  let v21 : BitVec 32 := Scalar.select v19 v20 v5
  let c0_i32_12 : BitVec 32 := 0#32
  let c512_i32 : BitVec 32 := 512#32
  let v2 : BitVec 32 := Scalar.muli v1 c512_i32
  let c4_i32_5 : BitVec 32 := 4#32
  let c0_i32_6 : BitVec 32 := 0#32
  let v22 : BitVec 1 := Scalar.cmpi .eq c4_i32_5 c0_i32_6
  let c1_i32_7 : BitVec 32 := 1#32
  let v23 : BitVec 32 := Scalar.select v22 c1_i32_7 c4_i32_5
  let v24 : BitVec 32 := Scalar.remsi v4 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c128_i32 : BitVec 32 := 128#32
  let v32 : BitVec 32 := Scalar.muli v31 c128_i32
  let v33 : BitVec 32 := Scalar.addi v2 v32
  ![0, v21.toNat, 0, v33.toNat]
def k0_off1_at (r : Fin 4) : BitVec 32 :=
  if r.val < 2 then
    if r.val < 1 then
      0#32
    else
      1#32
  else
    if r.val < 3 then
      34#32
    else
      35#32
@[reducible] def k0_t1_loop : Scf.Loop 32 :=
  let c0_i32_76 : BitVec 32 := 0#32
  let c18_i32 : BitVec 32 := 18#32
  let v143 : BitVec 32 := Scalar.addi c0_i32_76 c18_i32
  let c1_i32_77 : BitVec 32 := 1#32
  ⟨c0_i32_76, v143, c1_i32_77⟩
def k0_off2 (i : grid0.Coords) (k0_t1 : Fin k0_t1_loop.trips) (c0_i32_118 : BitVec 32) : Fin 4 → Nat :=
  let c0_i32_134 : BitVec 32 := 0#32
  let c0_i32_76 : BitVec 32 := 0#32
  let c1_i32_77 : BitVec 32 := 1#32
  let arg17 : BitVec 32 := Scf.iv c0_i32_76 c1_i32_77 k0_t1
  let c2_i32_117 : BitVec 32 := 2#32
  let v214 : BitVec 32 := Scalar.muli arg17 c2_i32_117
  let v215 : BitVec 32 := Scalar.addi v214 c0_i32_118
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v216 : BitVec 32 := Scalar.addi v215 v1
  let c36_i32_119 : BitVec 32 := 36#32
  let v217 : BitVec 32 := Scalar.remsi v216 c36_i32_119
  let c0_i32_121 : BitVec 32 := 0#32
  let v219 : BitVec 1 := Scalar.cmpi .sgt v217 c0_i32_121
  let v220 : BitVec 32 := Scalar.extui v219
  let c0_i32_122 : BitVec 32 := 0#32
  let v221 : BitVec 1 := Scalar.cmpi .slt v217 c0_i32_122
  let v222 : BitVec 32 := Scalar.extui v221
  let v223 : BitVec 32 := Scalar.subi v220 v222
  let c4_i32_120 : BitVec 32 := 4#32
  let c0_i32_123 : BitVec 32 := 0#32
  let v224 : BitVec 1 := Scalar.cmpi .sgt c4_i32_120 c0_i32_123
  let v225 : BitVec 32 := Scalar.extui v224
  let c0_i32_124 : BitVec 32 := 0#32
  let v226 : BitVec 1 := Scalar.cmpi .slt c4_i32_120 c0_i32_124
  let v227 : BitVec 32 := Scalar.extui v226
  let v228 : BitVec 32 := Scalar.subi v225 v227
  let v229 : BitVec 1 := Scalar.cmpi .ne v223 v228
  let v230 : BitVec 32 := Scalar.remsi v217 c4_i32_120
  let c0_i32_125 : BitVec 32 := 0#32
  let v231 : BitVec 1 := Scalar.cmpi .ne v230 c0_i32_125
  let v232 : BitVec 1 := Scalar.andi v229 v231
  let v218 : BitVec 32 := Scalar.divsi v217 c4_i32_120
  let c1_i32_126 : BitVec 32 := 1#32
  let v233 : BitVec 32 := Scalar.subi v218 c1_i32_126
  let v234 : BitVec 32 := Scalar.select v232 v233 v218
  let c0_i32_135 : BitVec 32 := 0#32
  let c512_i32 : BitVec 32 := 512#32
  let v2 : BitVec 32 := Scalar.muli v1 c512_i32
  let c4_i32_127 : BitVec 32 := 4#32
  let c0_i32_128 : BitVec 32 := 0#32
  let v235 : BitVec 1 := Scalar.cmpi .eq c4_i32_127 c0_i32_128
  let c1_i32_129 : BitVec 32 := 1#32
  let v236 : BitVec 32 := Scalar.select v235 c1_i32_129 c4_i32_127
  let v237 : BitVec 32 := Scalar.remsi v217 v236
  let c0_i32_131 : BitVec 32 := 0#32
  let v239 : BitVec 1 := Scalar.cmpi .slt v237 c0_i32_131
  let c0_i32_132 : BitVec 32 := 0#32
  let v240 : BitVec 1 := Scalar.cmpi .slt v236 c0_i32_132
  let v241 : BitVec 1 := Scalar.xori v239 v240
  let c0_i32_130 : BitVec 32 := 0#32
  let v238 : BitVec 1 := Scalar.cmpi .ne v237 c0_i32_130
  let v242 : BitVec 1 := Scalar.andi v241 v238
  let v243 : BitVec 32 := Scalar.addi v237 v236
  let v244 : BitVec 32 := Scalar.select v242 v243 v237
  let c128_i32_133 : BitVec 32 := 128#32
  let v245 : BitVec 32 := Scalar.muli v244 c128_i32_133
  let v246 : BitVec 32 := Scalar.addi v2 v245
  ![0, v234.toNat, 0, v246.toNat]
def k0_cond1 (k0_t1 : Fin k0_t1_loop.trips) : BitVec 1 :=
  let c0_i32_76 : BitVec 32 := 0#32
  let c1_i32_77 : BitVec 32 := 1#32
  let arg17 : BitVec 32 := Scf.iv c0_i32_76 c1_i32_77 k0_t1
  let c2_i32_117 : BitVec 32 := 2#32
  let v214 : BitVec 32 := Scalar.muli arg17 c2_i32_117
  let c0_i32_118 : BitVec 32 := 0#32
  let v215 : BitVec 32 := Scalar.addi v214 c0_i32_118
  let c2_i32_157 : BitVec 32 := 2#32
  let v286 : BitVec 1 := Scalar.cmpi .sge v215 c2_i32_157
  let v287 : BitVec 32 := Scalar.extui v286
  let c0_i32_158 : BitVec 32 := 0#32
  let v288 : BitVec 1 := Scalar.cmpi .ne v287 c0_i32_158
  v288

def k0_off3 (i : grid0.Coords) (k0_t1 : Fin k0_t1_loop.trips) : Fin 4 → Nat :=
  let c0_i32_267 : BitVec 32 := 0#32
  let c0_i32_76 : BitVec 32 := 0#32
  let c1_i32_77 : BitVec 32 := 1#32
  let arg17 : BitVec 32 := Scf.iv c0_i32_76 c1_i32_77 k0_t1
  let c2_i32_117 : BitVec 32 := 2#32
  let v214 : BitVec 32 := Scalar.muli arg17 c2_i32_117
  let c0_i32_118 : BitVec 32 := 0#32
  let v215 : BitVec 32 := Scalar.addi v214 c0_i32_118
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v444 : BitVec 32 := Scalar.addi v215 v1
  let c36_i32_252 : BitVec 32 := 36#32
  let v445 : BitVec 32 := Scalar.remsi v444 c36_i32_252
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c4_i32_253 : BitVec 32 := 4#32
  let c0_i32_256 : BitVec 32 := 0#32
  let v452 : BitVec 1 := Scalar.cmpi .sgt c4_i32_253 c0_i32_256
  let v453 : BitVec 32 := Scalar.extui v452
  let c0_i32_257 : BitVec 32 := 0#32
  let v454 : BitVec 1 := Scalar.cmpi .slt c4_i32_253 c0_i32_257
  let v455 : BitVec 32 := Scalar.extui v454
  let v456 : BitVec 32 := Scalar.subi v453 v455
  let v457 : BitVec 1 := Scalar.cmpi .ne v451 v456
  let v458 : BitVec 32 := Scalar.remsi v445 c4_i32_253
  let c0_i32_258 : BitVec 32 := 0#32
  let v459 : BitVec 1 := Scalar.cmpi .ne v458 c0_i32_258
  let v460 : BitVec 1 := Scalar.andi v457 v459
  let v446 : BitVec 32 := Scalar.divsi v445 c4_i32_253
  let c1_i32_259 : BitVec 32 := 1#32
  let v461 : BitVec 32 := Scalar.subi v446 c1_i32_259
  let v462 : BitVec 32 := Scalar.select v460 v461 v446
  let c0_i32_268 : BitVec 32 := 0#32
  let c512_i32 : BitVec 32 := 512#32
  let v2 : BitVec 32 := Scalar.muli v1 c512_i32
  let c4_i32_260 : BitVec 32 := 4#32
  let c0_i32_261 : BitVec 32 := 0#32
  let v463 : BitVec 1 := Scalar.cmpi .eq c4_i32_260 c0_i32_261
  let c1_i32_262 : BitVec 32 := 1#32
  let v464 : BitVec 32 := Scalar.select v463 c1_i32_262 c4_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c128_i32_266 : BitVec 32 := 128#32
  let v473 : BitVec 32 := Scalar.muli v472 c128_i32_266
  let v474 : BitVec 32 := Scalar.addi v2 v473
  ![0, v462.toNat, 0, v474.toNat]
@[reducible] def k0_t2_loop : Scf.Loop 32 :=
  let c0_i32_159 : BitVec 32 := 0#32
  let c72_i32 : BitVec 32 := 72#32
  let v289 : BitVec 32 := Scalar.addi c0_i32_159 c72_i32
  let c1_i32_160 : BitVec 32 := 1#32
  ⟨c0_i32_159, v289, c1_i32_160⟩
def k0_off4 (k0_t2 : Fin k0_t2_loop.trips) : Fin 3 → Nat :=
  let c0_i32_266 : BitVec 32 := 0#32
  let v474 : Index := Scalar.indexCast c0_i32_266
  let c0_i32_253 : BitVec 32 := 0#32
  let c0_i32_159 : BitVec 32 := 0#32
  let c1_i32_160 : BitVec 32 := 1#32
  let arg18 : BitVec 32 := Scf.iv c0_i32_159 c1_i32_160 k0_t2
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v475 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v476 : Index := Scalar.indexCast v473
  ![0, v475.toNat, v476.toNat]
def k0_off5 (k0_t2 : Fin k0_t2_loop.trips) : Fin 3 → Nat :=
  let c1_i32_267 : BitVec 32 := 1#32
  let v479 : Index := Scalar.indexCast c1_i32_267
  let c0_i32_253 : BitVec 32 := 0#32
  let c0_i32_159 : BitVec 32 := 0#32
  let c1_i32_160 : BitVec 32 := 1#32
  let arg18 : BitVec 32 := Scf.iv c0_i32_159 c1_i32_160 k0_t2
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v480 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v481 : Index := Scalar.indexCast v473
  ![1, v480.toNat, v481.toNat]
def k0_off6 (k0_t2 : Fin k0_t2_loop.trips) : Fin 3 → Nat :=
  let c2_i32_268 : BitVec 32 := 2#32
  let v484 : Index := Scalar.indexCast c2_i32_268
  let c0_i32_253 : BitVec 32 := 0#32
  let c0_i32_159 : BitVec 32 := 0#32
  let c1_i32_160 : BitVec 32 := 1#32
  let arg18 : BitVec 32 := Scf.iv c0_i32_159 c1_i32_160 k0_t2
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v485 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v486 : Index := Scalar.indexCast v473
  ![2, v485.toNat, v486.toNat]
def k0_off7 (k0_t2 : Fin k0_t2_loop.trips) : Fin 3 → Nat :=
  let c3_i32 : BitVec 32 := 3#32
  let v489 : Index := Scalar.indexCast c3_i32
  let c0_i32_253 : BitVec 32 := 0#32
  let c0_i32_159 : BitVec 32 := 0#32
  let c1_i32_160 : BitVec 32 := 1#32
  let arg18 : BitVec 32 := Scf.iv c0_i32_159 c1_i32_160 k0_t2
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v490 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v491 : Index := Scalar.indexCast v473
  ![3, v490.toNat, v491.toNat]
def k0_off8 (k0_t2 : Fin k0_t2_loop.trips) : Fin 3 → Nat :=
  let c4_i32_269 : BitVec 32 := 4#32
  let v494 : Index := Scalar.indexCast c4_i32_269
  let c0_i32_253 : BitVec 32 := 0#32
  let c0_i32_159 : BitVec 32 := 0#32
  let c1_i32_160 : BitVec 32 := 1#32
  let arg18 : BitVec 32 := Scf.iv c0_i32_159 c1_i32_160 k0_t2
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v495 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v496 : Index := Scalar.indexCast v473
  ![4, v495.toNat, v496.toNat]
def k0_off9 (k0_t2 : Fin k0_t2_loop.trips) : Fin 3 → Nat :=
  let c5_i32 : BitVec 32 := 5#32
  let v499 : Index := Scalar.indexCast c5_i32
  let c0_i32_253 : BitVec 32 := 0#32
  let c0_i32_159 : BitVec 32 := 0#32
  let c1_i32_160 : BitVec 32 := 1#32
  let arg18 : BitVec 32 := Scf.iv c0_i32_159 c1_i32_160 k0_t2
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v500 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v501 : Index := Scalar.indexCast v473
  ![5, v500.toNat, v501.toNat]
def k0_off10 (k0_t2 : Fin k0_t2_loop.trips) : Fin 3 → Nat :=
  let c6_i32 : BitVec 32 := 6#32
  let v504 : Index := Scalar.indexCast c6_i32
  let c0_i32_253 : BitVec 32 := 0#32
  let c0_i32_159 : BitVec 32 := 0#32
  let c1_i32_160 : BitVec 32 := 1#32
  let arg18 : BitVec 32 := Scf.iv c0_i32_159 c1_i32_160 k0_t2
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v505 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v506 : Index := Scalar.indexCast v473
  ![6, v505.toNat, v506.toNat]
def k0_off11 (k0_t2 : Fin k0_t2_loop.trips) : Fin 3 → Nat :=
  let c7_i32 : BitVec 32 := 7#32
  let v509 : Index := Scalar.indexCast c7_i32
  let c0_i32_253 : BitVec 32 := 0#32
  let c0_i32_159 : BitVec 32 := 0#32
  let c1_i32_160 : BitVec 32 := 1#32
  let arg18 : BitVec 32 := Scf.iv c0_i32_159 c1_i32_160 k0_t2
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v510 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v511 : Index := Scalar.indexCast v473
  ![7, v510.toNat, v511.toNat]
def k0_off12 (k0_t2 : Fin k0_t2_loop.trips) : Fin 3 → Nat :=
  let c8_i32_270 : BitVec 32 := 8#32
  let v514 : Index := Scalar.indexCast c8_i32_270
  let c0_i32_253 : BitVec 32 := 0#32
  let c0_i32_159 : BitVec 32 := 0#32
  let c1_i32_160 : BitVec 32 := 1#32
  let arg18 : BitVec 32 := Scf.iv c0_i32_159 c1_i32_160 k0_t2
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v515 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v516 : Index := Scalar.indexCast v473
  ![8, v515.toNat, v516.toNat]
def k0_cond2 (k0_t1 : Fin k0_t1_loop.trips) : BitVec 1 :=
  let c0_i32_76 : BitVec 32 := 0#32
  let c1_i32_77 : BitVec 32 := 1#32
  let arg17 : BitVec 32 := Scf.iv c0_i32_76 c1_i32_77 k0_t1
  let c2_i32_117 : BitVec 32 := 2#32
  let v214 : BitVec 32 := Scalar.muli arg17 c2_i32_117
  let c0_i32_118 : BitVec 32 := 0#32
  let v215 : BitVec 32 := Scalar.addi v214 c0_i32_118
  let c2_i32_181 : BitVec 32 := 2#32
  let v325 : BitVec 32 := Scalar.addi v215 c2_i32_181
  let c36_i32_182 : BitVec 32 := 36#32
  let v326 : BitVec 1 := Scalar.cmpi .slt v325 c36_i32_182
  let v327 : BitVec 32 := Scalar.extui v326
  let c0_i32_183 : BitVec 32 := 0#32
  let v328 : BitVec 1 := Scalar.cmpi .ne v327 c0_i32_183
  v328

def k0_off13 (i : grid0.Coords) (k0_t1 : Fin k0_t1_loop.trips) : Fin 4 → Nat :=
  let c0_i32_268 : BitVec 32 := 0#32
  let c0_i32_76 : BitVec 32 := 0#32
  let c1_i32_77 : BitVec 32 := 1#32
  let arg17 : BitVec 32 := Scf.iv c0_i32_76 c1_i32_77 k0_t1
  let c2_i32_117 : BitVec 32 := 2#32
  let v214 : BitVec 32 := Scalar.muli arg17 c2_i32_117
  let c0_i32_118 : BitVec 32 := 0#32
  let v215 : BitVec 32 := Scalar.addi v214 c0_i32_118
  let c2_i32_252 : BitVec 32 := 2#32
  let v444 : BitVec 32 := Scalar.addi v215 c2_i32_252
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v445 : BitVec 32 := Scalar.addi v444 v1
  let c36_i32_253 : BitVec 32 := 36#32
  let v446 : BitVec 32 := Scalar.remsi v445 c36_i32_253
  let c0_i32_255 : BitVec 32 := 0#32
  let v448 : BitVec 1 := Scalar.cmpi .sgt v446 c0_i32_255
  let v449 : BitVec 32 := Scalar.extui v448
  let c0_i32_256 : BitVec 32 := 0#32
  let v450 : BitVec 1 := Scalar.cmpi .slt v446 c0_i32_256
  let v451 : BitVec 32 := Scalar.extui v450
  let v452 : BitVec 32 := Scalar.subi v449 v451
  let c4_i32_254 : BitVec 32 := 4#32
  let c0_i32_257 : BitVec 32 := 0#32
  let v453 : BitVec 1 := Scalar.cmpi .sgt c4_i32_254 c0_i32_257
  let v454 : BitVec 32 := Scalar.extui v453
  let c0_i32_258 : BitVec 32 := 0#32
  let v455 : BitVec 1 := Scalar.cmpi .slt c4_i32_254 c0_i32_258
  let v456 : BitVec 32 := Scalar.extui v455
  let v457 : BitVec 32 := Scalar.subi v454 v456
  let v458 : BitVec 1 := Scalar.cmpi .ne v452 v457
  let v459 : BitVec 32 := Scalar.remsi v446 c4_i32_254
  let c0_i32_259 : BitVec 32 := 0#32
  let v460 : BitVec 1 := Scalar.cmpi .ne v459 c0_i32_259
  let v461 : BitVec 1 := Scalar.andi v458 v460
  let v447 : BitVec 32 := Scalar.divsi v446 c4_i32_254
  let c1_i32_260 : BitVec 32 := 1#32
  let v462 : BitVec 32 := Scalar.subi v447 c1_i32_260
  let v463 : BitVec 32 := Scalar.select v461 v462 v447
  let c0_i32_269 : BitVec 32 := 0#32
  let c512_i32 : BitVec 32 := 512#32
  let v2 : BitVec 32 := Scalar.muli v1 c512_i32
  let c4_i32_261 : BitVec 32 := 4#32
  let c0_i32_262 : BitVec 32 := 0#32
  let v464 : BitVec 1 := Scalar.cmpi .eq c4_i32_261 c0_i32_262
  let c1_i32_263 : BitVec 32 := 1#32
  let v465 : BitVec 32 := Scalar.select v464 c1_i32_263 c4_i32_261
  let v466 : BitVec 32 := Scalar.remsi v446 v465
  let c0_i32_265 : BitVec 32 := 0#32
  let v468 : BitVec 1 := Scalar.cmpi .slt v466 c0_i32_265
  let c0_i32_266 : BitVec 32 := 0#32
  let v469 : BitVec 1 := Scalar.cmpi .slt v465 c0_i32_266
  let v470 : BitVec 1 := Scalar.xori v468 v469
  let c0_i32_264 : BitVec 32 := 0#32
  let v467 : BitVec 1 := Scalar.cmpi .ne v466 c0_i32_264
  let v471 : BitVec 1 := Scalar.andi v470 v467
  let v472 : BitVec 32 := Scalar.addi v466 v465
  let v473 : BitVec 32 := Scalar.select v471 v472 v466
  let c128_i32_267 : BitVec 32 := 128#32
  let v474 : BitVec 32 := Scalar.muli v473 c128_i32_267
  let v475 : BitVec 32 := Scalar.addi v2 v474
  ![0, v463.toNat, 0, v475.toNat]
def k0_cond3 (k0_t1 : Fin k0_t1_loop.trips) : BitVec 1 :=
  let c0_i32_76 : BitVec 32 := 0#32
  let c1_i32_77 : BitVec 32 := 1#32
  let arg17 : BitVec 32 := Scf.iv c0_i32_76 c1_i32_77 k0_t1
  let c2_i32_184 : BitVec 32 := 2#32
  let v329 : BitVec 32 := Scalar.muli arg17 c2_i32_184
  let c1_i32_185 : BitVec 32 := 1#32
  let v330 : BitVec 32 := Scalar.addi v329 c1_i32_185
  let c2_i32_224 : BitVec 32 := 2#32
  let v401 : BitVec 1 := Scalar.cmpi .sge v330 c2_i32_224
  let v402 : BitVec 32 := Scalar.extui v401
  let c0_i32_225 : BitVec 32 := 0#32
  let v403 : BitVec 1 := Scalar.cmpi .ne v402 c0_i32_225
  v403

def k0_off14 (i : grid0.Coords) (k0_t1 : Fin k0_t1_loop.trips) : Fin 4 → Nat :=
  let c0_i32_267 : BitVec 32 := 0#32
  let c0_i32_76 : BitVec 32 := 0#32
  let c1_i32_77 : BitVec 32 := 1#32
  let arg17 : BitVec 32 := Scf.iv c0_i32_76 c1_i32_77 k0_t1
  let c2_i32_184 : BitVec 32 := 2#32
  let v329 : BitVec 32 := Scalar.muli arg17 c2_i32_184
  let c1_i32_185 : BitVec 32 := 1#32
  let v330 : BitVec 32 := Scalar.addi v329 c1_i32_185
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v444 : BitVec 32 := Scalar.addi v330 v1
  let c36_i32_252 : BitVec 32 := 36#32
  let v445 : BitVec 32 := Scalar.remsi v444 c36_i32_252
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c4_i32_253 : BitVec 32 := 4#32
  let c0_i32_256 : BitVec 32 := 0#32
  let v452 : BitVec 1 := Scalar.cmpi .sgt c4_i32_253 c0_i32_256
  let v453 : BitVec 32 := Scalar.extui v452
  let c0_i32_257 : BitVec 32 := 0#32
  let v454 : BitVec 1 := Scalar.cmpi .slt c4_i32_253 c0_i32_257
  let v455 : BitVec 32 := Scalar.extui v454
  let v456 : BitVec 32 := Scalar.subi v453 v455
  let v457 : BitVec 1 := Scalar.cmpi .ne v451 v456
  let v458 : BitVec 32 := Scalar.remsi v445 c4_i32_253
  let c0_i32_258 : BitVec 32 := 0#32
  let v459 : BitVec 1 := Scalar.cmpi .ne v458 c0_i32_258
  let v460 : BitVec 1 := Scalar.andi v457 v459
  let v446 : BitVec 32 := Scalar.divsi v445 c4_i32_253
  let c1_i32_259 : BitVec 32 := 1#32
  let v461 : BitVec 32 := Scalar.subi v446 c1_i32_259
  let v462 : BitVec 32 := Scalar.select v460 v461 v446
  let c0_i32_268 : BitVec 32 := 0#32
  let c512_i32 : BitVec 32 := 512#32
  let v2 : BitVec 32 := Scalar.muli v1 c512_i32
  let c4_i32_260 : BitVec 32 := 4#32
  let c0_i32_261 : BitVec 32 := 0#32
  let v463 : BitVec 1 := Scalar.cmpi .eq c4_i32_260 c0_i32_261
  let c1_i32_262 : BitVec 32 := 1#32
  let v464 : BitVec 32 := Scalar.select v463 c1_i32_262 c4_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c128_i32_266 : BitVec 32 := 128#32
  let v473 : BitVec 32 := Scalar.muli v472 c128_i32_266
  let v474 : BitVec 32 := Scalar.addi v2 v473
  ![0, v462.toNat, 0, v474.toNat]
@[reducible] def k0_t3_loop : Scf.Loop 32 :=
  let c0_i32_226 : BitVec 32 := 0#32
  let c72_i32_227 : BitVec 32 := 72#32
  let v404 : BitVec 32 := Scalar.addi c0_i32_226 c72_i32_227
  let c1_i32_228 : BitVec 32 := 1#32
  ⟨c0_i32_226, v404, c1_i32_228⟩
def k0_off15 (k0_t3 : Fin k0_t3_loop.trips) : Fin 3 → Nat :=
  let c0_i32_266 : BitVec 32 := 0#32
  let v474 : Index := Scalar.indexCast c0_i32_266
  let c0_i32_253 : BitVec 32 := 0#32
  let c0_i32_226 : BitVec 32 := 0#32
  let c1_i32_228 : BitVec 32 := 1#32
  let arg18 : BitVec 32 := Scf.iv c0_i32_226 c1_i32_228 k0_t3
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v475 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v476 : Index := Scalar.indexCast v473
  ![0, v475.toNat, v476.toNat]
def k0_off16 (k0_t3 : Fin k0_t3_loop.trips) : Fin 3 → Nat :=
  let c1_i32_267 : BitVec 32 := 1#32
  let v479 : Index := Scalar.indexCast c1_i32_267
  let c0_i32_253 : BitVec 32 := 0#32
  let c0_i32_226 : BitVec 32 := 0#32
  let c1_i32_228 : BitVec 32 := 1#32
  let arg18 : BitVec 32 := Scf.iv c0_i32_226 c1_i32_228 k0_t3
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v480 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v481 : Index := Scalar.indexCast v473
  ![1, v480.toNat, v481.toNat]
def k0_off17 (k0_t3 : Fin k0_t3_loop.trips) : Fin 3 → Nat :=
  let c2_i32_268 : BitVec 32 := 2#32
  let v484 : Index := Scalar.indexCast c2_i32_268
  let c0_i32_253 : BitVec 32 := 0#32
  let c0_i32_226 : BitVec 32 := 0#32
  let c1_i32_228 : BitVec 32 := 1#32
  let arg18 : BitVec 32 := Scf.iv c0_i32_226 c1_i32_228 k0_t3
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v485 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v486 : Index := Scalar.indexCast v473
  ![2, v485.toNat, v486.toNat]
def k0_off18 (k0_t3 : Fin k0_t3_loop.trips) : Fin 3 → Nat :=
  let c3_i32 : BitVec 32 := 3#32
  let v489 : Index := Scalar.indexCast c3_i32
  let c0_i32_253 : BitVec 32 := 0#32
  let c0_i32_226 : BitVec 32 := 0#32
  let c1_i32_228 : BitVec 32 := 1#32
  let arg18 : BitVec 32 := Scf.iv c0_i32_226 c1_i32_228 k0_t3
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v490 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v491 : Index := Scalar.indexCast v473
  ![3, v490.toNat, v491.toNat]
def k0_off19 (k0_t3 : Fin k0_t3_loop.trips) : Fin 3 → Nat :=
  let c4_i32_269 : BitVec 32 := 4#32
  let v494 : Index := Scalar.indexCast c4_i32_269
  let c0_i32_253 : BitVec 32 := 0#32
  let c0_i32_226 : BitVec 32 := 0#32
  let c1_i32_228 : BitVec 32 := 1#32
  let arg18 : BitVec 32 := Scf.iv c0_i32_226 c1_i32_228 k0_t3
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v495 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v496 : Index := Scalar.indexCast v473
  ![4, v495.toNat, v496.toNat]
def k0_off20 (k0_t3 : Fin k0_t3_loop.trips) : Fin 3 → Nat :=
  let c5_i32 : BitVec 32 := 5#32
  let v499 : Index := Scalar.indexCast c5_i32
  let c0_i32_253 : BitVec 32 := 0#32
  let c0_i32_226 : BitVec 32 := 0#32
  let c1_i32_228 : BitVec 32 := 1#32
  let arg18 : BitVec 32 := Scf.iv c0_i32_226 c1_i32_228 k0_t3
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v500 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v501 : Index := Scalar.indexCast v473
  ![5, v500.toNat, v501.toNat]
def k0_off21 (k0_t3 : Fin k0_t3_loop.trips) : Fin 3 → Nat :=
  let c6_i32 : BitVec 32 := 6#32
  let v504 : Index := Scalar.indexCast c6_i32
  let c0_i32_253 : BitVec 32 := 0#32
  let c0_i32_226 : BitVec 32 := 0#32
  let c1_i32_228 : BitVec 32 := 1#32
  let arg18 : BitVec 32 := Scf.iv c0_i32_226 c1_i32_228 k0_t3
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v505 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v506 : Index := Scalar.indexCast v473
  ![6, v505.toNat, v506.toNat]
def k0_off22 (k0_t3 : Fin k0_t3_loop.trips) : Fin 3 → Nat :=
  let c7_i32 : BitVec 32 := 7#32
  let v509 : Index := Scalar.indexCast c7_i32
  let c0_i32_253 : BitVec 32 := 0#32
  let c0_i32_226 : BitVec 32 := 0#32
  let c1_i32_228 : BitVec 32 := 1#32
  let arg18 : BitVec 32 := Scf.iv c0_i32_226 c1_i32_228 k0_t3
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v510 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v511 : Index := Scalar.indexCast v473
  ![7, v510.toNat, v511.toNat]
def k0_off23 (k0_t3 : Fin k0_t3_loop.trips) : Fin 3 → Nat :=
  let c8_i32_270 : BitVec 32 := 8#32
  let v514 : Index := Scalar.indexCast c8_i32_270
  let c0_i32_253 : BitVec 32 := 0#32
  let c0_i32_226 : BitVec 32 := 0#32
  let c1_i32_228 : BitVec 32 := 1#32
  let arg18 : BitVec 32 := Scf.iv c0_i32_226 c1_i32_228 k0_t3
  let c1_i32_252 : BitVec 32 := 1#32
  let v444 : BitVec 32 := Scalar.muli arg18 c1_i32_252
  let v445 : BitVec 32 := Scalar.addi c0_i32_253 v444
  let c0_i32_254 : BitVec 32 := 0#32
  let v447 : BitVec 1 := Scalar.cmpi .sgt v445 c0_i32_254
  let v448 : BitVec 32 := Scalar.extui v447
  let c0_i32_255 : BitVec 32 := 0#32
  let v449 : BitVec 1 := Scalar.cmpi .slt v445 c0_i32_255
  let v450 : BitVec 32 := Scalar.extui v449
  let v451 : BitVec 32 := Scalar.subi v448 v450
  let c8_i32 : BitVec 32 := 8#32
  let c0_i32_256 : BitVec 32 := 0#32
  let v452 : BitVec 1 := Scalar.cmpi .sgt c8_i32 c0_i32_256
  let v453 : BitVec 32 := Scalar.extui v452
  let c0_i32_257 : BitVec 32 := 0#32
  let v454 : BitVec 1 := Scalar.cmpi .slt c8_i32 c0_i32_257
  let v455 : BitVec 32 := Scalar.extui v454
  let v456 : BitVec 32 := Scalar.subi v453 v455
  let v457 : BitVec 1 := Scalar.cmpi .ne v451 v456
  let v458 : BitVec 32 := Scalar.remsi v445 c8_i32
  let c0_i32_258 : BitVec 32 := 0#32
  let v459 : BitVec 1 := Scalar.cmpi .ne v458 c0_i32_258
  let v460 : BitVec 1 := Scalar.andi v457 v459
  let v446 : BitVec 32 := Scalar.divsi v445 c8_i32
  let c1_i32_259 : BitVec 32 := 1#32
  let v461 : BitVec 32 := Scalar.subi v446 c1_i32_259
  let v462 : BitVec 32 := Scalar.select v460 v461 v446
  let v515 : Index := Scalar.indexCast v462
  let c8_i32_260 : BitVec 32 := 8#32
  let c0_i32_261 : BitVec 32 := 0#32
  let v463 : BitVec 1 := Scalar.cmpi .eq c8_i32_260 c0_i32_261
  let c1_i32_262 : BitVec 32 := 1#32
  let v464 : BitVec 32 := Scalar.select v463 c1_i32_262 c8_i32_260
  let v465 : BitVec 32 := Scalar.remsi v445 v464
  let c0_i32_264 : BitVec 32 := 0#32
  let v467 : BitVec 1 := Scalar.cmpi .slt v465 c0_i32_264
  let c0_i32_265 : BitVec 32 := 0#32
  let v468 : BitVec 1 := Scalar.cmpi .slt v464 c0_i32_265
  let v469 : BitVec 1 := Scalar.xori v467 v468
  let c0_i32_263 : BitVec 32 := 0#32
  let v466 : BitVec 1 := Scalar.cmpi .ne v465 c0_i32_263
  let v470 : BitVec 1 := Scalar.andi v469 v466
  let v471 : BitVec 32 := Scalar.addi v465 v464
  let v472 : BitVec 32 := Scalar.select v470 v471 v465
  let c16_i32 : BitVec 32 := 16#32
  let v473 : BitVec 32 := Scalar.muli v472 c16_i32
  let v516 : Index := Scalar.indexCast v473
  ![8, v515.toNat, v516.toNat]
def k0_cond4 (k0_t1 : Fin k0_t1_loop.trips) : BitVec 1 :=
  let c0_i32_76 : BitVec 32 := 0#32
  let c1_i32_77 : BitVec 32 := 1#32
  let arg17 : BitVec 32 := Scf.iv c0_i32_76 c1_i32_77 k0_t1
  let c2_i32_184 : BitVec 32 := 2#32
  let v329 : BitVec 32 := Scalar.muli arg17 c2_i32_184
  let c1_i32_185 : BitVec 32 := 1#32
  let v330 : BitVec 32 := Scalar.addi v329 c1_i32_185
  let c2_i32_249 : BitVec 32 := 2#32
  let v440 : BitVec 32 := Scalar.addi v330 c2_i32_249
  let c36_i32_250 : BitVec 32 := 36#32
  let v441 : BitVec 1 := Scalar.cmpi .slt v440 c36_i32_250
  let v442 : BitVec 32 := Scalar.extui v441
  let c0_i32_251 : BitVec 32 := 0#32
  let v443 : BitVec 1 := Scalar.cmpi .ne v442 c0_i32_251
  v443

def k0_off24 (i : grid0.Coords) (k0_t1 : Fin k0_t1_loop.trips) : Fin 4 → Nat :=
  let c0_i32_268 : BitVec 32 := 0#32
  let c0_i32_76 : BitVec 32 := 0#32
  let c1_i32_77 : BitVec 32 := 1#32
  let arg17 : BitVec 32 := Scf.iv c0_i32_76 c1_i32_77 k0_t1
  let c2_i32_184 : BitVec 32 := 2#32
  let v329 : BitVec 32 := Scalar.muli arg17 c2_i32_184
  let c1_i32_185 : BitVec 32 := 1#32
  let v330 : BitVec 32 := Scalar.addi v329 c1_i32_185
  let c2_i32_252 : BitVec 32 := 2#32
  let v444 : BitVec 32 := Scalar.addi v330 c2_i32_252
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v445 : BitVec 32 := Scalar.addi v444 v1
  let c36_i32_253 : BitVec 32 := 36#32
  let v446 : BitVec 32 := Scalar.remsi v445 c36_i32_253
  let c0_i32_255 : BitVec 32 := 0#32
  let v448 : BitVec 1 := Scalar.cmpi .sgt v446 c0_i32_255
  let v449 : BitVec 32 := Scalar.extui v448
  let c0_i32_256 : BitVec 32 := 0#32
  let v450 : BitVec 1 := Scalar.cmpi .slt v446 c0_i32_256
  let v451 : BitVec 32 := Scalar.extui v450
  let v452 : BitVec 32 := Scalar.subi v449 v451
  let c4_i32_254 : BitVec 32 := 4#32
  let c0_i32_257 : BitVec 32 := 0#32
  let v453 : BitVec 1 := Scalar.cmpi .sgt c4_i32_254 c0_i32_257
  let v454 : BitVec 32 := Scalar.extui v453
  let c0_i32_258 : BitVec 32 := 0#32
  let v455 : BitVec 1 := Scalar.cmpi .slt c4_i32_254 c0_i32_258
  let v456 : BitVec 32 := Scalar.extui v455
  let v457 : BitVec 32 := Scalar.subi v454 v456
  let v458 : BitVec 1 := Scalar.cmpi .ne v452 v457
  let v459 : BitVec 32 := Scalar.remsi v446 c4_i32_254
  let c0_i32_259 : BitVec 32 := 0#32
  let v460 : BitVec 1 := Scalar.cmpi .ne v459 c0_i32_259
  let v461 : BitVec 1 := Scalar.andi v458 v460
  let v447 : BitVec 32 := Scalar.divsi v446 c4_i32_254
  let c1_i32_260 : BitVec 32 := 1#32
  let v462 : BitVec 32 := Scalar.subi v447 c1_i32_260
  let v463 : BitVec 32 := Scalar.select v461 v462 v447
  let c0_i32_269 : BitVec 32 := 0#32
  let c512_i32 : BitVec 32 := 512#32
  let v2 : BitVec 32 := Scalar.muli v1 c512_i32
  let c4_i32_261 : BitVec 32 := 4#32
  let c0_i32_262 : BitVec 32 := 0#32
  let v464 : BitVec 1 := Scalar.cmpi .eq c4_i32_261 c0_i32_262
  let c1_i32_263 : BitVec 32 := 1#32
  let v465 : BitVec 32 := Scalar.select v464 c1_i32_263 c4_i32_261
  let v466 : BitVec 32 := Scalar.remsi v446 v465
  let c0_i32_265 : BitVec 32 := 0#32
  let v468 : BitVec 1 := Scalar.cmpi .slt v466 c0_i32_265
  let c0_i32_266 : BitVec 32 := 0#32
  let v469 : BitVec 1 := Scalar.cmpi .slt v465 c0_i32_266
  let v470 : BitVec 1 := Scalar.xori v468 v469
  let c0_i32_264 : BitVec 32 := 0#32
  let v467 : BitVec 1 := Scalar.cmpi .ne v466 c0_i32_264
  let v471 : BitVec 1 := Scalar.andi v470 v467
  let v472 : BitVec 32 := Scalar.addi v466 v465
  let v473 : BitVec 32 := Scalar.select v471 v472 v466
  let c128_i32_267 : BitVec 32 := 128#32
  let v474 : BitVec 32 := Scalar.muli v473 c128_i32_267
  let v475 : BitVec 32 := Scalar.addi v2 v474
  ![0, v463.toNat, 0, v475.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x9x9x9 : Shape := ⟨4, ![16384, 9, 9, 9]⟩
abbrev S16384x81x9 : Shape := ⟨3, ![16384, 81, 9]⟩
abbrev S16384x81x1x9 : Shape := ⟨4, ![16384, 81, 1, 9]⟩
abbrev S_ : Shape := ⟨0, ![]⟩
abbrev S16384x81x1 : Shape := ⟨3, ![16384, 81, 1]⟩
abbrev S16384x81x1x1 : Shape := ⟨4, ![16384, 81, 1, 1]⟩
abbrev S1x1x1x9 : Shape := ⟨4, ![1, 1, 1, 9]⟩

abbrev nBuf : Space → Nat
  | .hbm => 25
  | .vmem => 0
  | .smem => 0
  | _ => 0

abbrev bufTy : (tb : Table) → Fin (tcTables nBuf tb) → BufTy
  | .hbm, ⟨0, _⟩ => ⟨S16384x9x9x9, .f32⟩
  | .hbm, ⟨1, _⟩ => ⟨S16384x9x9x9, .f32⟩
  | .hbm, ⟨2, _⟩ => ⟨S16384x9x9x9, .f32⟩
  | .hbm, ⟨3, _⟩ => ⟨S16384x81x9, .f32⟩
  | .hbm, ⟨4, _⟩ => ⟨S16384x81x1x9, .f32⟩
  | .hbm, ⟨5, _⟩ => ⟨S_, .f32⟩
  | .hbm, ⟨6, _⟩ => ⟨S16384x81x1, .f32⟩
  | .hbm, ⟨7, _⟩ => ⟨S16384x81x1x9, .i32⟩
  | .hbm, ⟨8, _⟩ => ⟨S_, .f32⟩
  | .hbm, ⟨9, _⟩ => ⟨S_, .i32⟩
  | .hbm, ⟨10, _⟩ => ⟨S16384x81x1, .f32⟩
  | .hbm, ⟨11, _⟩ => ⟨S16384x81x1, .i32⟩
  | .hbm, ⟨12, _⟩ => ⟨S16384x81x1x1, .i32⟩
  | .hbm, ⟨13, _⟩ => ⟨S1x1x1x9, .i32⟩
  | .hbm, ⟨14, _⟩ => ⟨S16384x81x1x9, .i32⟩
  | .hbm, ⟨15, _⟩ => ⟨S16384x81x1x9, .i32⟩
  | .hbm, ⟨16, _⟩ => ⟨S16384x81x1x9, .i1⟩
  | .hbm, ⟨17, _⟩ => ⟨S16384x81x1x9, .f32⟩
  | .hbm, ⟨18, _⟩ => ⟨S16384x81x1x1, .f32⟩
  | .hbm, ⟨19, _⟩ => ⟨S16384x81x1x9, .f32⟩
  | .hbm, ⟨20, _⟩ => ⟨S16384x81x1x9, .f32⟩
  | .hbm, ⟨21, _⟩ => ⟨S16384x81x9, .f32⟩
  | .hbm, ⟨22, _⟩ => ⟨S16384x9x9x9, .f32⟩
  | .hbm, ⟨23, _⟩ => ⟨S16384x9x9x9, .f32⟩
  | .hbm, ⟨24, _⟩ => ⟨S16384x9x9x9, .f32⟩
  | _, _ => ⟨S16384x9x9x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v4 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Proof.Geometry.lean ====
/-
  Where the kernel's copies lie.

  The two operands and the result are arrays of extents 9, 9, 9 and 16384. Subcore `s` of core `c` is worker
  `w = 2 s + c`; it owns the band of 512 lanes from `512 w` on the last axis, and works through it in 36 units: one row
  of the second axis and 128 lanes each, taken in the order that starts at unit `w`. This module names the slab of a
  unit, gives every printed slice that name, and shows that the slabs of a worker are disjoint and make up its band, and
  that the 32 bands are disjoint and make up the array.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Ring
public import Idealize.ShloMosaic.Lib.Tactic
public import proofs.«01_k».proof.Proof.Gen.KernelIdeal
public import proofs.«01_k».proof.Proof.Gen.KernelIdeal.Skeleton

@[expose] public section

noncomputable section

namespace Cert.Proof.Geometry

open Cert.KernelIdeal Cert.KernelIdeal.Gen
open Idealize.ShloMosaic
open Idealize.ShloMosaic.Tactic

/-- The worker a subcore is. -/
def worker (i : grid0.Coords) : Fin 32 :=
  ⟨2 * (i 1).val + (i 0).val, by
    have h0 : (i 0).val < 2 := (i 0).isLt
    have h1 : (i 1).val < 16 := (i 1).isLt
    omega⟩

/-- Where the slab of unit `u` of worker `w` starts. -/
def slabOff (w : Fin 32) (u : ℕ) : Fin 4 → ℕ :=
  ![0, (u + w.val) % 36 / 4, 0, 512 * w.val + 128 * ((u + w.val) % 36 % 4)]

theorem slabOff_inb (w : Fin 32) (u : ℕ) : ∀ a, slabOff w u a + S9x1x9x128.size a ≤ S9x9x9x16384.size a := by
  have := w.isLt
  intro a; fin_cases a
  · show 0 + 9 ≤ 9; omega
  · show (u + w.val) % 36 / 4 + 1 ≤ 9; omega
  · show 0 + 9 ≤ 9; omega
  · show 512 * w.val + 128 * ((u + w.val) % 36 % 4) + 128 ≤ 16384; omega

abbrev slabRect (w : Fin 32) (u : ℕ) : Rect S9x9x9x16384 :=
  Rect.unit (s := S9x9x9x16384) (slabOff w u) S9x1x9x128.size (slabOff_inb w u)

/-- The slab of unit `u` of worker `w` in the array `M`, as the body slices and squeezes it. -/
def slab (M : Memref sig .scVector .hbm S9x9x9x16384 .f32) (w : Fin 32) (u : ℕ) :
    Memref sig .scVector .hbm S9x9x128 .f32 :=
  (M.slice (slabRect w u) (fun _ => rfl)).squeeze S9x9x128 squeezes_S9x1x9x128_S9x9x128

/-! ## The printed offsets -/

theorem off1_eq : ∀ i : grid0.Coords, k0_off1 i 0#32 = slabOff (worker i) 0 ∧ k0_off1 i 1#32 = slabOff (worker i) 1
    ∧ k0_off1 i 34#32 = slabOff (worker i) 34 ∧ k0_off1 i 35#32 = slabOff (worker i) 35 := by
  decide +kernel

theorem off2_eq : ∀ (i : grid0.Coords) (t : Fin k0_t1_loop.trips),
    k0_off2 i t 0#32 = slabOff (worker i) (2 * t.val) ∧ k0_off2 i t 1#32 = slabOff (worker i) (2 * t.val + 1) := by
  decide +kernel

theorem off3_eq : ∀ (i : grid0.Coords) (t : Fin k0_t1_loop.trips), k0_off3 i t = slabOff (worker i) (2 * t.val) := by
  decide +kernel

theorem off13_eq : ∀ (i : grid0.Coords) (t : Fin k0_t1_loop.trips), k0_off13 i t = slabOff (worker i) (2 * (t.val + 1)) := by
  decide +kernel

theorem off14_eq : ∀ (i : grid0.Coords) (t : Fin k0_t1_loop.trips), k0_off14 i t = slabOff (worker i) (2 * t.val + 1) := by
  decide +kernel

theorem off24_eq : ∀ (i : grid0.Coords) (t : Fin k0_t1_loop.trips), k0_off24 i t = slabOff (worker i) (2 * (t.val + 1) + 1) := by
  decide +kernel

theorem cond_eq : ∀ t : Fin k0_t1_loop.trips, (k0_cond1 t = 1#1 ↔ 0 < t.val) ∧ (k0_cond3 t = 1#1 ↔ 0 < t.val)
    ∧ (k0_cond2 t = 1#1 ↔ t.val < 17) ∧ (k0_cond4 t = 1#1 ↔ t.val < 17) := by
  decide +kernel

/-! ## Every printed slice is a slab -/

private theorem slab_congr (M : Memref sig .scVector .hbm S9x9x9x16384 .f32) {off : Fin 4 → ℕ} {w : Fin 32} {u : ℕ} (e : off = slabOff w u) (hh hs) :
    (M.slice (Rect.unit (s := S9x9x9x16384) off S9x1x9x128.size hh) hs).squeeze S9x9x128 squeezes_S9x1x9x128_S9x9x128 = slab M w u :=
  congrArg (fun N : Memref sig .scVector .hbm S9x1x9x128 .f32 => N.squeeze S9x9x128 squeezes_S9x1x9x128_S9x9x128) (Memref.slice_unit_congr _ e _ _ _ _)

@[sl_canon] theorem slab_first0 (M : Memref sig .scVector .hbm S9x9x9x16384 .f32) (i : grid0.Coords) (hs) :
    (M.slice (Rect.unit (s := S9x9x9x16384) (k0_off1 i 0#32) S9x1x9x128.size (k0_off1_inb i 0)) hs).squeeze S9x9x128 squeezes_S9x1x9x128_S9x9x128
      = slab M (worker i) 0 := slab_congr M ((off1_eq i).1) _ _
@[sl_canon] theorem slab_first1 (M : Memref sig .scVector .hbm S9x9x9x16384 .f32) (i : grid0.Coords) (hs) :
    (M.slice (Rect.unit (s := S9x9x9x16384) (k0_off1 i 1#32) S9x1x9x128.size (k0_off1_inb i 1)) hs).squeeze S9x9x128 squeezes_S9x1x9x128_S9x9x128
      = slab M (worker i) 1 := slab_congr M ((off1_eq i).2.1) _ _
@[sl_canon] theorem slab_last0 (M : Memref sig .scVector .hbm S9x9x9x16384 .f32) (i : grid0.Coords) (hs) :
    (M.slice (Rect.unit (s := S9x9x9x16384) (k0_off1 i 34#32) S9x1x9x128.size (k0_off1_inb i 2)) hs).squeeze S9x9x128 squeezes_S9x1x9x128_S9x9x128
      = slab M (worker i) 34 := slab_congr M ((off1_eq i).2.2.1) _ _
@[sl_canon] theorem slab_last1 (M : Memref sig .scVector .hbm S9x9x9x16384 .f32) (i : grid0.Coords) (hs) :
    (M.slice (Rect.unit (s := S9x9x9x16384) (k0_off1 i 35#32) S9x1x9x128.size (k0_off1_inb i 3)) hs).squeeze S9x9x128 squeezes_S9x1x9x128_S9x9x128
      = slab M (worker i) 35 := slab_congr M ((off1_eq i).2.2.2) _ _
@[sl_canon] theorem slab_now0 (M : Memref sig .scVector .hbm S9x9x9x16384 .f32) (i : grid0.Coords) (t : Fin k0_t1_loop.trips) (hs) :
    (M.slice (Rect.unit (s := S9x9x9x16384) (k0_off2 i t 0#32) S9x1x9x128.size (k0_off2_inb i t 0)) hs).squeeze S9x9x128 squeezes_S9x1x9x128_S9x9x128
      = slab M (worker i) (2 * t.val) := slab_congr M ((off2_eq i t).1) _ _
@[sl_canon] theorem slab_now1 (M : Memref sig .scVector .hbm S9x9x9x16384 .f32) (i : grid0.Coords) (t : Fin k0_t1_loop.trips) (hs) :
    (M.slice (Rect.unit (s := S9x9x9x16384) (k0_off2 i t 1#32) S9x1x9x128.size (k0_off2_inb i t 1)) hs).squeeze S9x9x128 squeezes_S9x1x9x128_S9x9x128
      = slab M (worker i) (2 * t.val + 1) := slab_congr M ((off2_eq i t).2) _ _
@[sl_canon] theorem slab_wait0 (M : Memref sig .scVector .hbm S9x9x9x16384 .f32) (i : grid0.Coords) (t : Fin k0_t1_loop.trips) (hh hs) :
    (M.slice (Rect.unit (s := S9x9x9x16384) (k0_off3 i t) S9x1x9x128.size hh) hs).squeeze S9x9x128 squeezes_S9x1x9x128_S9x9x128
      = slab M (worker i) (2 * t.val) := slab_congr M (off3_eq i t) _ _
@[sl_canon] theorem slab_wait1 (M : Memref sig .scVector .hbm S9x9x9x16384 .f32) (i : grid0.Coords) (t : Fin k0_t1_loop.trips) (hh hs) :
    (M.slice (Rect.unit (s := S9x9x9x16384) (k0_off14 i t) S9x1x9x128.size hh) hs).squeeze S9x9x128 squeezes_S9x1x9x128_S9x9x128
      = slab M (worker i) (2 * t.val + 1) := slab_congr M (off14_eq i t) _ _
@[sl_canon] theorem slab_next0 (M : Memref sig .scVector .hbm S9x9x9x16384 .f32) (i : grid0.Coords) (t : Fin k0_t1_loop.trips) (hh hs) :
    (M.slice (Rect.unit (s := S9x9x9x16384) (k0_off13 i t) S9x1x9x128.size hh) hs).squeeze S9x9x128 squeezes_S9x1x9x128_S9x9x128
      = slab M (worker i) (2 * (t.val + 1)) := slab_congr M (off13_eq i t) _ _
@[sl_canon] theorem slab_next1 (M : Memref sig .scVector .hbm S9x9x9x16384 .f32) (i : grid0.Coords) (t : Fin k0_t1_loop.trips) (hh hs) :
    (M.slice (Rect.unit (s := S9x9x9x16384) (k0_off24 i t) S9x1x9x128.size hh) hs).squeeze S9x9x128 squeezes_S9x1x9x128_S9x9x128
      = slab M (worker i) (2 * (t.val + 1) + 1) := slab_congr M (off24_eq i t) _ _

end Cert.Proof.Geometry

end
-- ==== Proof.Lane.lean ====
/-
  What the kernel computes, lane by lane.

  At each position of the second and third axis and each lane the kernel looks at nine values `v 0 … v 8` (the first
  axis), keeps a running maximum and the index at which it was last raised, and writes at class `c` the product
  `v c * m c` if `c` is that index and zero otherwise. This module states that function on nine floats and shows that
  the values the body stores are it, on sixteen lanes at a time.
-/
module

public import proofs.«01_k».proof.Proof.Geometry
public import Idealize.ShloMosaic.Lib.Pipeline.Value
public import Idealize.ShloMosaic.Lib.Writes

@[expose] public section

noncomputable section

namespace Cert.Proof.Lane

open Cert.KernelIdeal Cert.KernelIdeal.Gen
open Idealize.ShloMosaic

variable {F : FTy → Type} [FloatOps F]

/-- The word of the float `n`, for the nine class numbers. -/
def word (n : ℕ) : BitVec 32 :=
  match n with
  | 0 => 0x00000000#32
  | 1 => 0x3F800000#32
  | 2 => 0x40000000#32
  | 3 => 0x40400000#32
  | 4 => 0x40800000#32
  | 5 => 0x40A00000#32
  | 6 => 0x40C00000#32
  | 7 => 0x40E00000#32
  | _ => 0x41000000#32

/-- The running maximum of `v 0 … v n`. -/
def runMax (v : ℕ → F .f32) : ℕ → F .f32
  | 0 => v 0
  | n + 1 => FloatOps.maximumf (runMax v n) (v (n + 1))

/-- The class number, as a float, at which the running maximum of `v 0 … v n` was last raised. -/
def runIdx (v : ℕ → F .f32) : ℕ → F .f32
  | 0 => Scalar.ofBits .f32 (word 0)
  | n + 1 => Scalar.select (FloatOps.cmpf .ogt (v (n + 1)) (runMax v n)) (Scalar.ofBits .f32 (word (n + 1))) (runIdx v n)

/-- What is written at class `c` for the nine values `v` and the multiplier `x`. -/
def chosen (v : ℕ → F .f32) (x : F .f32) (c : ℕ) : F .f32 :=
  Scalar.select (FloatOps.cmpf .oeq (runIdx v 8) (Scalar.ofBits .f32 (word c))) (FloatOps.mulf (v c) x) (Scalar.ofBits .f32 0x00000000#32)

/-- The nine loads of a group, by class number. -/
def nth (u0 u1 u2 u3 u4 u5 u6 u7 u8 : Vec F S1x1x16 .f32) (n : ℕ) : Vec F S1x1x16 .f32 :=
  match n with
  | 0 => u0 | 1 => u1 | 2 => u2 | 3 => u3 | 4 => u4 | 5 => u5 | 6 => u6 | 7 => u7 | _ => u8

/-- Sixteen lanes through the flat register shape and back. -/
theorem through (u : ℕ → Vec F S1x1x16 .f32) (x : Vec F S1x1x16 .f32) (c : ℕ) :
    shapeCast S1x1x16 (fun j => chosen (fun n => shapeCast S16 (u n) shapeCasts_S1x1x16_S16 j) (shapeCast S16 x shapeCasts_S1x1x16_S16 j) c)
        shapeCasts_S16_S1x1x16
      = fun j => chosen (fun n => u n j) (x j) c := by
  funext j
  have k : ∀ w : Vec F S1x1x16 .f32, shapeCast S1x1x16 (shapeCast S16 w shapeCasts_S1x1x16_S16) shapeCasts_S16_S1x1x16 j = w j := fun w => by
    rw [shapeCast_shapeCast]
  exact (congr (congrArg (fun a b => chosen a b c) (funext fun n => k (u n))) (k x))

section Stored
variable (u0 u1 u2 u3 u4 u5 u6 u7 u8 x : Vec F S1x1x16 .f32)

/-- The index register of a group, from its nine loads. -/
abbrev idxReg : FVec F S16 .f32 :=
  k0_pay16 (k0_pay6 u5) (k0_pay7 u6) (k0_pay8 u7) (k0_pay9 u8) (k0_pay13 (k0_pay1 u0) (k0_pay2 u1) u2 u3)
    (k0_pay14 (k0_pay1 u0) (k0_pay2 u1) u2 u3 u4) (k0_pay15 (k0_pay1 u0) (k0_pay2 u1) u2 u3 u4)

theorem idxReg_eq : idxReg u0 u1 u2 u3 u4 u5 u6 u7 u8
    = fun j => runIdx (fun n => shapeCast S16 (nth u0 u1 u2 u3 u4 u5 u6 u7 u8 n) shapeCasts_S1x1x16_S16 j) 8 := rfl

theorem stored0 : k0_pay17 (k0_pay1 u0) (k0_pay6 u5) (k0_pay7 u6) (k0_pay8 u7) (k0_pay9 u8) (k0_pay13 (k0_pay1 u0) (k0_pay2 u1) u2 u3)
    (k0_pay14 (k0_pay1 u0) (k0_pay2 u1) u2 u3 u4) (k0_pay15 (k0_pay1 u0) (k0_pay2 u1) u2 u3 u4) x
      = fun j => chosen (fun n => nth u0 u1 u2 u3 u4 u5 u6 u7 u8 n j) (x j) 0 :=
  Eq.trans (by rfl) (through (nth u0 u1 u2 u3 u4 u5 u6 u7 u8) x 0)
theorem stored1 : k0_pay19 (k0_pay18 (k0_pay2 u1) (k0_pay6 u5) (k0_pay7 u6) (k0_pay8 u7) (k0_pay9 u8) (k0_pay13 (k0_pay1 u0) (k0_pay2 u1) u2 u3)
    (k0_pay14 (k0_pay1 u0) (k0_pay2 u1) u2 u3 u4) (k0_pay15 (k0_pay1 u0) (k0_pay2 u1) u2 u3 u4) x)
      = fun j => chosen (fun n => nth u0 u1 u2 u3 u4 u5 u6 u7 u8 n j) (x j) 1 :=
  Eq.trans (by rfl) (through (nth u0 u1 u2 u3 u4 u5 u6 u7 u8) x 1)
theorem stored2 : k0_pay20 (k0_pay3 u2) (idxReg u0 u1 u2 u3 u4 u5 u6 u7 u8) x
      = fun j => chosen (fun n => nth u0 u1 u2 u3 u4 u5 u6 u7 u8 n j) (x j) 2 :=
  Eq.trans (by rfl) (through (nth u0 u1 u2 u3 u4 u5 u6 u7 u8) x 2)
theorem stored3 : k0_pay21 (k0_pay4 u3) (idxReg u0 u1 u2 u3 u4 u5 u6 u7 u8) x
      = fun j => chosen (fun n => nth u0 u1 u2 u3 u4 u5 u6 u7 u8 n j) (x j) 3 :=
  Eq.trans (by rfl) (through (nth u0 u1 u2 u3 u4 u5 u6 u7 u8) x 3)
theorem stored4 : k0_pay23 (k0_pay22 (k0_pay5 u4) (idxReg u0 u1 u2 u3 u4 u5 u6 u7 u8) x)
      = fun j => chosen (fun n => nth u0 u1 u2 u3 u4 u5 u6 u7 u8 n j) (x j) 4 :=
  Eq.trans (by rfl) (through (nth u0 u1 u2 u3 u4 u5 u6 u7 u8) x 4)
theorem stored5 : k0_pay24 (k0_pay6 u5) (idxReg u0 u1 u2 u3 u4 u5 u6 u7 u8) x
      = fun j => chosen (fun n => nth u0 u1 u2 u3 u4 u5 u6 u7 u8 n j) (x j) 5 :=
  Eq.trans (by rfl) (through (nth u0 u1 u2 u3 u4 u5 u6 u7 u8) x 5)
theorem stored6 : k0_pay25 (k0_pay7 u6) (idxReg u0 u1 u2 u3 u4 u5 u6 u7 u8) x
      = fun j => chosen (fun n => nth u0 u1 u2 u3 u4 u5 u6 u7 u8 n j) (x j) 6 :=
  Eq.trans (by rfl) (through (nth u0 u1 u2 u3 u4 u5 u6 u7 u8) x 6)
theorem stored7 : k0_pay55 (k0_pay26 (idxReg u0 u1 u2 u3 u4 u5 u6 u7 u8)) (k0_pay27 (k0_pay8 u7) x)
      = fun j => chosen (fun n => nth u0 u1 u2 u3 u4 u5 u6 u7 u8 n j) (x j) 7 :=
  Eq.trans (by rfl) (through (nth u0 u1 u2 u3 u4 u5 u6 u7 u8) x 7)
theorem stored8 : k0_pay56 (k0_pay9 u8) (idxReg u0 u1 u2 u3 u4 u5 u6 u7 u8) x
      = fun j => chosen (fun n => nth u0 u1 u2 u3 u4 u5 u6 u7 u8 n j) (x j) 8 :=
  Eq.trans (by rfl) (through (nth u0 u1 u2 u3 u4 u5 u6 u7 u8) x 8)

end Stored

/-! ## The groups of sixteen lanes -/

/-- Where class `c` of group `g` lies in a unit's buffer. -/
def laneOff (c g : ℕ) : Fin 3 → ℕ := ![c, g / 8, 16 * (g % 8)]

theorem laneOff_inb (c g : ℕ) (hc : c < 9) (hg : g < 72) : ∀ a, laneOff c g a + S1x1x16.size a ≤ S9x9x128.size a := by
  intro a; fin_cases a
  · show c + 1 ≤ 9; omega
  · show g / 8 + 1 ≤ 9; omega
  · show 16 * (g % 8) + 16 ≤ 128; omega

theorem lanes_eq : ∀ g : Fin k0_t2_loop.trips, k0_off4 g = laneOff 0 g.val ∧ k0_off5 g = laneOff 1 g.val ∧ k0_off6 g = laneOff 2 g.val
    ∧ k0_off7 g = laneOff 3 g.val ∧ k0_off8 g = laneOff 4 g.val ∧ k0_off9 g = laneOff 5 g.val ∧ k0_off10 g = laneOff 6 g.val
    ∧ k0_off11 g = laneOff 7 g.val ∧ k0_off12 g = laneOff 8 g.val := by
  decide +kernel

/-- The place of class `n` (8 for a larger number) in the column of `y`. -/
def inColumn (y : S9x9x128.Idx) (n : ℕ) : S9x9x128.Idx
  | 0 => (⟨min n 8, by omega⟩ : Fin 9)
  | 1 => y 1
  | 2 => y 2

/-- A unit's buffer as the computation writes it: class by class, `chosen` of the values and the multipliers. -/
def computed (fs fm : S9x9x128.Idx → F .f32) : S9x9x128.Idx → F .f32 :=
  fun y => chosen (fun n => fs (inColumn y n)) (fm y) (y 0).val

/-- The group of sixteen lanes a place of the buffer lies in. -/
def groupOf (y : S9x9x128.Idx) : ℕ := 8 * (y 1).val + (y 2).val / 16

set_option maxRecDepth 65536 in
/-- The second copy of the body's loop is the first, on the other three buffers. -/
theorem second_body (i : grid0.Coords) (arg2 : Memref sig .scVector .hbm S9x9x9x16384 .f32) (harg2 : arg2.IsWhole) (arg3 : Memref sig .scVector .hbm S9x9x9x16384 .f32) (harg3 : arg3.IsWhole)
    (arg4 : Memref sig .scVector .hbm S9x9x9x16384 .f32) (harg4 : arg4.IsWhole) (a5 : Memref sig .scVector .vmem S9x9x128 .f32) (h5 : a5.IsWhole) (a6 : Memref sig .scVector .vmem S9x9x128 .f32) (h6 : a6.IsWhole)
    (a7 : Memref sig .scVector .vmem S9x9x128 .f32) (h7 : a7.IsWhole) (a8 : Memref sig .scVector .vmem S9x9x128 .f32) (h8 : a8.IsWhole) (a9 : Memref sig .scVector .vmem S9x9x128 .f32) (h9 : a9.IsWhole)
    (a10 : Memref sig .scVector .vmem S9x9x128 .f32) (h10 : a10.IsWhole) (s11 s12 s13 s14 s15 s16 : DmaSems sig S_) (v1 v2 : BitVec 32) (t : Fin k0_t1_loop.trips) (v : BitVec 32) :
    k0_t3_body (F := F) i arg2 harg2 arg3 harg3 arg4 harg4 a5 h5 a6 h6 a7 h7 a8 h8 a9 h9 a10 h10 s11 s12 s13 s14 s15 s16 v1 v2 t v
      = k0_t2_body (F := F) i arg2 harg2 arg3 harg3 arg4 harg4 a6 h6 a5 h5 a8 h8 a7 h7 a10 h10 a9 h9 s11 s12 s13 s14 s15 s16 v1 v2 t v := by
  rfl

end Cert.Proof.Lane

end
-- ==== Proof.Compute.lean ====
/-
  The computation on one unit: 72 groups of sixteen lanes.

  One trip of the inner loop loads the nine classes of a group of the values and of the multipliers and stores the nine
  classes of the result. After all 72 trips the result's buffer holds `computed` everywhere.
-/
module

public import proofs.«01_k».proof.Proof.Lane
public import Idealize.ShloMosaic.Lib.WritesUnit

@[expose] public section

noncomputable section

namespace Cert.Proof.Compute

open Cert.KernelIdeal Cert.KernelIdeal.Gen
open Cert.Proof.Geometry Cert.Proof.Lane
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ

abbrev 𝒱₀ : Variants := Variants.none
abbrev cV (i : grid0.Coords) : Fin τ.nSC := (i 0).castLE hcore0
abbrev jV (i : grid0.Coords) : Fin τ.nSub := (i 1).castLE hsub0
/-- The thread of subcore `i` on device `d`. -/
abbrev thr (d : Dev nD) (i : grid0.Coords) : Thread nD τ := V d (cV i) (jV i)

section Unit

variable (d : Dev nD) (i : grid0.Coords)
  (arg2 : Memref sig .scVector .hbm S9x9x9x16384 .f32) (harg2 : arg2.IsWhole) (arg3 : Memref sig .scVector .hbm S9x9x9x16384 .f32) (harg3 : arg3.IsWhole)
  (arg4 : Memref sig .scVector .hbm S9x9x9x16384 .f32) (harg4 : arg4.IsWhole) (arg5 : Memref sig .scVector .vmem S9x9x128 .f32) (harg5 : arg5.IsWhole)
  (arg6 : Memref sig .scVector .vmem S9x9x128 .f32) (harg6 : arg6.IsWhole) (arg7 : Memref sig .scVector .vmem S9x9x128 .f32) (harg7 : arg7.IsWhole)
  (arg8 : Memref sig .scVector .vmem S9x9x128 .f32) (harg8 : arg8.IsWhole) (arg9 : Memref sig .scVector .vmem S9x9x128 .f32) (harg9 : arg9.IsWhole)
  (arg10 : Memref sig .scVector .vmem S9x9x128 .f32) (harg10 : arg10.IsWhole) (arg11 arg12 arg13 arg14 arg15 arg16 : DmaSems sig S_)
  (v1 v2 : BitVec 32) (t : Fin k0_t1_loop.trips) (v215 : BitVec 32)

/-- A unit's buffer held, at contents `f`. -/
abbrev bufP (A : Memref sig .scVector .vmem S9x9x128 .f32) (f : Buf (Elt F) (A.view.loc (thr d i))) : sProp 𝕄 :=
  A.view.loc (thr d i) ↦[A.view.set]{fullShare} f

/-- The buffer `A` holds `computed` on the groups below `g`. -/
def DoneBelow (g : ℕ) (fs fm fo : S9x9x128.Idx → F .f32) : Prop := ∀ y, groupOf y < g → fo y = computed fs fm y

abbrev tripG (g : Fin k0_t2_loop.trips) : Prog (TpuEff nD τ sig (Elt F) Λ₀ (.scVector ((i 0).castLE hcore0) ((i 1).castLE hsub0))) Unit :=
  k0_t2_body (F := F) i arg2 harg2 arg3 harg3 arg4 harg4 arg5 harg5 arg6 harg6 arg7 harg7 arg8 harg8 arg9 harg9 arg10 harg10
    arg11 arg12 arg13 arg14 arg15 arg16 v1 v2 t v215 g ()

/-- The sixteen lanes of class `c` of group `g` in the buffer `A`. -/
abbrev laneRd (A : Memref sig .scVector .vmem S9x9x128 .f32) (off : Fin 3 → ℕ) (inb : ∀ a, off a + S1x1x16.size a ≤ S9x9x128.size a)
    (f : Buf (Elt F) (A.view.loc (thr d i))) : Vec F S1x1x16 .f32 :=
  A.view.readAt (Elt F) (Rect.unit (s := S9x9x128) off S1x1x16.size inb).toLoadRect f

omit [FloatOps F] in
/-- A lane of class `n`, read at the column of the same lane of class `c`. -/
theorem laneRd_eq (A : Memref sig .scVector .vmem S9x9x128 .f32) (f : Buf (Elt F) (A.view.loc (thr d i))) (n c k g : ℕ) {offn offc : Fin 3 → ℕ}
    (en : offn = laneOff n g) (ec : offc = laneOff c g) (hn : n = min k 8) (inbn inbc) (x : S1x1x16.Idx) :
    laneRd d i A offn inbn f x = A.view.read (Elt F) f (inColumn ((Rect.unit (s := S9x9x128) offc S1x1x16.size inbc).emb x) k) := by
  subst en ec
  show A.view.read (Elt F) f _ = A.view.read (Elt F) f _
  congr 1
  funext a
  apply Fin.ext
  have h0 : (x 0).val < 1 := (x 0).isLt
  match a with
  | 0 => show n + 1 * (x 0).val = min k 8; omega
  | 1 => rfl
  | 2 => rfl

omit [FloatOps F] in
/-- A lane of class `c`, read at its own place. -/
theorem laneRd_self (A : Memref sig .scVector .vmem S9x9x128 .f32) (f : Buf (Elt F) (A.view.loc (thr d i))) (off : Fin 3 → ℕ) (inb) (x : S1x1x16.Idx) :
    laneRd d i A off inb f x = A.view.read (Elt F) f ((Rect.unit (s := S9x9x128) off S1x1x16.size inb).emb x) := rfl

/-- The nine loads of group `g`. -/
abbrev loads (A : Memref sig .scVector .vmem S9x9x128 .f32) (f : Buf (Elt F) (A.view.loc (thr d i))) (g : Fin k0_t2_loop.trips) : ℕ → Vec F S1x1x16 .f32 :=
  nth (laneRd d i A (k0_off4 g) (k0_off4_inb g) f) (laneRd d i A (k0_off5 g) (k0_off5_inb g) f) (laneRd d i A (k0_off6 g) (k0_off6_inb g) f)
    (laneRd d i A (k0_off7 g) (k0_off7_inb g) f) (laneRd d i A (k0_off8 g) (k0_off8_inb g) f) (laneRd d i A (k0_off9 g) (k0_off9_inb g) f)
    (laneRd d i A (k0_off10 g) (k0_off10_inb g) f) (laneRd d i A (k0_off11 g) (k0_off11_inb g) f) (laneRd d i A (k0_off12 g) (k0_off12_inb g) f)

omit [FloatOps F] in
theorem loads_eq (A : Memref sig .scVector .vmem S9x9x128 .f32) (f : Buf (Elt F) (A.view.loc (thr d i))) (g : Fin k0_t2_loop.trips) (c : ℕ)
    {off : Fin 3 → ℕ} (ec : off = laneOff c g.val) (inb) (x : S1x1x16.Idx) (n : ℕ) :
    loads d i A f g n x = A.view.read (Elt F) f (inColumn ((Rect.unit (s := S9x9x128) off S1x1x16.size inb).emb x) n) := by
  obtain ⟨e0, e1, e2, e3, e4, e5, e6, e7, e8⟩ := lanes_eq g
  match n with
  | 0 => exact laneRd_eq d i A f 0 c _ g.val e0 ec rfl _ _ x
  | 1 => exact laneRd_eq d i A f 1 c _ g.val e1 ec rfl _ _ x
  | 2 => exact laneRd_eq d i A f 2 c _ g.val e2 ec rfl _ _ x
  | 3 => exact laneRd_eq d i A f 3 c _ g.val e3 ec rfl _ _ x
  | 4 => exact laneRd_eq d i A f 4 c _ g.val e4 ec rfl _ _ x
  | 5 => exact laneRd_eq d i A f 5 c _ g.val e5 ec rfl _ _ x
  | 6 => exact laneRd_eq d i A f 6 c _ g.val e6 ec rfl _ _ x
  | 7 => exact laneRd_eq d i A f 7 c _ g.val e7 ec rfl _ _ x
  | n + 8 => exact laneRd_eq d i A f 8 c _ g.val e8 ec (by omega) _ _ x

/-- What is stored for class `c` of group `g` is `computed` there. -/
theorem piece_eq (f5 : Buf (Elt F) (arg5.view.loc (thr d i))) (f7 : Buf (Elt F) (arg7.view.loc (thr d i))) (g : Fin k0_t2_loop.trips) (c : ℕ)
    {off : Fin 3 → ℕ} (ec : off = laneOff c g.val) (inb) (p : Vec F S1x1x16 .f32)
    (hp : p = fun j => chosen (fun n => loads d i arg5 f5 g n j) (laneRd d i arg7 off inb f7 j) c) (x : S1x1x16.Idx) :
    p x = computed (arg5.view.read (Elt F) f5) (arg7.view.read (Elt F) f7) ((Rect.unit (s := S9x9x128) off S1x1x16.size inb).emb x) := by
  subst hp
  have hc : ((Rect.unit (s := S9x9x128) off S1x1x16.size inb).emb x 0).val = c := by
    subst ec
    have h0 : (x 0).val < 1 := (x 0).isLt
    show c + 1 * (x 0).val = c; omega
  unfold computed
  rw [hc]
  exact congrArg (fun a => chosen a _ c) (funext fun n => loads_eq d i arg5 f5 g c ec inb x n)

omit [FloatOps F] in
theorem mem_lanes {off : Fin 3 → ℕ} {c g : ℕ} (ec : off = laneOff c g) (inb) (y : S9x9x128.Idx) :
    y ∈ (Rect.unit (s := S9x9x128) off S1x1x16.size inb).set ↔ (y 0).val = c ∧ groupOf y = g := by
  subst ec
  rw [Rect.mem_set_unit]
  have h1 : (y 1).val < 9 := (y 1).isLt
  have h2 : (y 2).val < 128 := (y 2).isLt
  unfold groupOf
  constructor
  · intro H
    have a0 : c ≤ (y 0).val ∧ (y 0).val < c + 1 := H 0
    have a1 : g / 8 ≤ (y 1).val ∧ (y 1).val < g / 8 + 1 := H 1
    have a2 : 16 * (g % 8) ≤ (y 2).val ∧ (y 2).val < 16 * (g % 8) + 16 := H 2
    omega
  · intro H a; fin_cases a
    · show c ≤ (y 0).val ∧ (y 0).val < c + 1; omega
    · show g / 8 ≤ (y 1).val ∧ (y 1).val < g / 8 + 1; omega
    · show 16 * (g % 8) ≤ (y 2).val ∧ (y 2).val < 16 * (g % 8) + 16; omega

set_option maxHeartbeats 4000000 in
/-- One trip: a group more is done. -/
theorem trip (g : Fin k0_t2_loop.trips) (f5 : Buf (Elt F) (arg5.view.loc (thr d i))) (f7 : Buf (Elt F) (arg7.view.loc (thr d i)))
    (f9 : Buf (Elt F) (arg9.view.loc (thr d i)))
    (h : DoneBelow g.val (arg5.view.read (Elt F) f5) (arg7.view.read (Elt F) f7) (arg9.view.read (Elt F) f9)) :
    iprop(bufP d i arg5 f5 ∗ bufP d i arg7 f7 ∗ bufP d i arg9 f9)
      ⊢ wp frame (wpE (defs₀ (F := F)) 𝒱₀ (thr d i) none) Set.univ
          (tripG i arg2 harg2 arg3 harg3 arg4 harg4 arg5 harg5 arg6 harg6 arg7 harg7 arg8 harg8 arg9 harg9 arg10 harg10
            arg11 arg12 arg13 arg14 arg15 arg16 v1 v2 t v215 g)
          fun _ => iprop(bufP d i arg5 f5 ∗ bufP d i arg7 f7 ∗ ∃ f, bufP d i arg9 f
            ∗ ⌜DoneBelow (g.val + 1) (arg5.view.read (Elt F) f5) (arg7.view.read (Elt F) f7) (arg9.view.read (Elt F) f)⌝) := by
  iintro ⟨H5, H7, H9⟩
  dsimp only [tripG]
  sl_unfold [k0_t2_body]
  sl_exec
  sl_step
  isplitl [H5]; · iexact H5
  isplitl [H7]; · iexact H7
  iexists _; isplitl [H9]; · iexact H9
  ipureintro
  obtain ⟨e0, e1, e2, e3, e4, e5, e6, e7, e8⟩ := lanes_eq g
  intro y hy
  by_cases hg : groupOf y = g.val
  · refine View.read_writes_apply_of_pieces (Val := Elt F) arg9.view f9 (computed (arg5.view.read (Elt F) f5) (arg7.view.read (Elt F) f7)) _ ?_ y ?_
    · simp only [List.forall_mem_cons]
      refine ⟨piece_eq d i arg5 arg7 f5 f7 g 8 e8 _ _ (stored8 _ _ _ _ _ _ _ _ _ _),
        piece_eq d i arg5 arg7 f5 f7 g 7 e7 _ _ (stored7 _ _ _ _ _ _ _ _ _ _),
        piece_eq d i arg5 arg7 f5 f7 g 6 e6 _ _ (stored6 _ _ _ _ _ _ _ _ _ _),
        piece_eq d i arg5 arg7 f5 f7 g 5 e5 _ _ (stored5 _ _ _ _ _ _ _ _ _ _),
        piece_eq d i arg5 arg7 f5 f7 g 4 e4 _ _ (stored4 _ _ _ _ _ _ _ _ _ _),
        piece_eq d i arg5 arg7 f5 f7 g 3 e3 _ _ (stored3 _ _ _ _ _ _ _ _ _ _),
        piece_eq d i arg5 arg7 f5 f7 g 2 e2 _ _ (stored2 _ _ _ _ _ _ _ _ _ _),
        piece_eq d i arg5 arg7 f5 f7 g 1 e1 _ _ (stored1 _ _ _ _ _ _ _ _ _ _),
        piece_eq d i arg5 arg7 f5 f7 g 0 e0 _ _ (stored0 _ _ _ _ _ _ _ _ _ _), ?_⟩
      intro p hp; exact absurd hp List.not_mem_nil
    · have h0 : (y 0).val < 9 := (y 0).isLt
      simp only [List.exists_mem_cons_iff]
      rcases (by omega : (y 0).val = 8 ∨ (y 0).val = 7 ∨ (y 0).val = 6 ∨ (y 0).val = 5 ∨ (y 0).val = 4 ∨ (y 0).val = 3 ∨ (y 0).val = 2 ∨ (y 0).val = 1 ∨ (y 0).val = 0)
        with q | q | q | q | q | q | q | q | q
      · exact Or.inl ((mem_lanes e8 _ y).2 ⟨q, hg⟩)
      · exact Or.inr <| Or.inl ((mem_lanes e7 _ y).2 ⟨q, hg⟩)
      · exact Or.inr <| Or.inr <| Or.inl ((mem_lanes e6 _ y).2 ⟨q, hg⟩)
      · exact Or.inr <| Or.inr <| Or.inr <| Or.inl ((mem_lanes e5 _ y).2 ⟨q, hg⟩)
      · exact Or.inr <| Or.inr <| Or.inr <| Or.inr <| Or.inl ((mem_lanes e4 _ y).2 ⟨q, hg⟩)
      · exact Or.inr <| Or.inr <| Or.inr <| Or.inr <| Or.inr <| Or.inl ((mem_lanes e3 _ y).2 ⟨q, hg⟩)
      · exact Or.inr <| Or.inr <| Or.inr <| Or.inr <| Or.inr <| Or.inr <| Or.inl ((mem_lanes e2 _ y).2 ⟨q, hg⟩)
      · exact Or.inr <| Or.inr <| Or.inr <| Or.inr <| Or.inr <| Or.inr <| Or.inr <| Or.inl ((mem_lanes e1 _ y).2 ⟨q, hg⟩)
      · exact Or.inr <| Or.inr <| Or.inr <| Or.inr <| Or.inr <| Or.inr <| Or.inr <| Or.inr <| Or.inl ((mem_lanes e0 _ y).2 ⟨q, hg⟩)
  · rw [View.read_writes_apply_of_forall_not_mem]
    · exact h y (by omega)
    · simp only [List.forall_mem_cons, mem_lanes e0, mem_lanes e1, mem_lanes e2, mem_lanes e3, mem_lanes e4, mem_lanes e5, mem_lanes e6, mem_lanes e7, mem_lanes e8]
      exact ⟨fun q => hg q.2, fun q => hg q.2, fun q => hg q.2, fun q => hg q.2, fun q => hg q.2, fun q => hg q.2, fun q => hg q.2, fun q => hg q.2,
        fun q => hg q.2, fun p hp => absurd hp List.not_mem_nil⟩

end Unit

end Cert.Proof.Compute

end
-- ==== Proof.Tile.lean ====
module

public import proofs.«01_k».proof.Proof.Compute

@[expose] public section

noncomputable section

namespace Cert.Proof.Tile

open Cert.KernelIdeal Cert.KernelIdeal.Gen
open Cert.Proof.Geometry Cert.Proof.Lane Cert.Proof.Compute
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev sM : Memref sig .scVector .hbm S9x9x9x16384 .f32 := Memref.whole main_v0_scv
abbrev mM : Memref sig .scVector .hbm S9x9x9x16384 .f32 := Memref.whole main_v1_scv
abbrev oM : Memref sig .scVector .hbm S9x9x9x16384 .f32 := Memref.whole main_v2_scv
abbrev s0 : Memref sig .scVector .vmem S9x9x128 .f32 := Memref.whole cc0_scratch0
abbrev s1 : Memref sig .scVector .vmem S9x9x128 .f32 := Memref.whole cc0_scratch1
abbrev m0 : Memref sig .scVector .vmem S9x9x128 .f32 := Memref.whole cc0_scratch2
abbrev m1 : Memref sig .scVector .vmem S9x9x128 .f32 := Memref.whole cc0_scratch3
abbrev o0 : Memref sig .scVector .vmem S9x9x128 .f32 := Memref.whole cc0_scratch4
abbrev o1 : Memref sig .scVector .vmem S9x9x128 .f32 := Memref.whole cc0_scratch5

section Trip
variable (d : Dev nD) (i : grid0.Coords) (XS XM : Buf (Elt F) (sM.view.loc (thr d i)))

/-- A slab of an array in high-bandwidth memory, held whole. -/
abbrev homeP (M : Memref sig .scVector .hbm S9x9x9x16384 .f32) (X : Buf (Elt F) (M.view.loc (thr d i))) (u : ℕ) : sProp 𝕄 :=
  (slab M (worker i) u).view.loc (thr d i) ↦[(slab M (worker i) u).view.set]{fullShare} X

/-- A DMA semaphore of the tile at rest. -/
abbrev cellP (s : DmaSem sig) : sProp 𝕄 := semVal (thr d i, SemLoc.dma s) 0

/-- Unit `u` of `M` on its way into the buffer `B`. -/
abbrev fIn (B : Memref sig .scVector .vmem S9x9x128 .f32) (M : Memref sig .scVector .hbm S9x9x9x16384 .f32) (s : DmaSem sig)
    (X : Buf (Elt F) (M.view.loc (thr d i))) (u : ℕ) (f : Buf (Elt F) (B.view.loc (thr d i))) : sProp 𝕄 :=
  Transfers.Flight countersEmb (thr d i) (SemLoc.dma s) (default : HIx 1) 331776
    iprop(bufP d i B (B.view.writes (Elt F) f [⟨Rect.whole S9x9x128, ReadAs.same.apply ((slab M (worker i) u).view.read (Elt F) X)⟩])
      ∗ homeP d i M X u)

/-- The buffer `B` on its way out to unit `u` of `M`. -/
abbrev fOut (B : Memref sig .scVector .vmem S9x9x128 .f32) (M : Memref sig .scVector .hbm S9x9x9x16384 .f32) (s : DmaSem sig)
    (X : Buf (Elt F) (M.view.loc (thr d i))) (u : ℕ) (f : Buf (Elt F) (B.view.loc (thr d i))) : sProp 𝕄 :=
  Transfers.Flight countersEmb (thr d i) (SemLoc.dma s) (default : HIx 1) 331776
    iprop(homeP d i M ((slab M (worker i) u).view.writes (Elt F) X [⟨Rect.whole S9x9x128, ReadAs.same.apply (B.view.read (Elt F) f)⟩]) u
      ∗ bufP d i B f)

/-- The buffer holds what unit `u` of the result is. -/
def Good (B : Memref sig .scVector .vmem S9x9x128 .f32) (M : Memref sig .scVector .hbm S9x9x9x16384 .f32) (G : Buf (Elt F) (M.view.loc (thr d i)))
    (u : ℕ) (f : Buf (Elt F) (B.view.loc (thr d i))) : Prop :=
  B.view.read (Elt F) f = (slab M (worker i) u).view.read (Elt F) G

/-- An output slot before trip `t`: at rest at first, then sending out the unit of the trip before. -/
def outSlot (B : Memref sig .scVector .vmem S9x9x128 .f32) (s : DmaSem sig) (XO G : Buf (Elt F) (oM.view.loc (thr d i))) (t u : ℕ) : sProp 𝕄 :=
  if 0 < t then iprop(∃ f, ⌜Good d i B oM G u f⌝ ∗ fOut d i B oM s XO u f) else iprop(cellP d i s ∗ ∃ f, bufP d i B f)

/-- An input slot before trip `t`: receiving the trip's unit, or at rest after the last. -/
def inSlot (B : Memref sig .scVector .vmem S9x9x128 .f32) (M : Memref sig .scVector .hbm S9x9x9x16384 .f32) (s : DmaSem sig)
    (X : Buf (Elt F) (M.view.loc (thr d i))) (t u : ℕ) : sProp 𝕄 :=
  if t < 18 then iprop(∃ f, fIn d i B M s X u f) else iprop(cellP d i s ∗ ∃ f, bufP d i B f)

def dues (O : CellTallies nD τ sig (HIx 1)) (W : Waits sig (HIx 1)) : sProp 𝕄 :=
  iprop(∃ W', ⌜∀ p ∈ W', p ∈ W ∨ p.2 = none⌝ ∗ owes (thr d i) O W')

abbrev part (c : Prop) [Decidable c] (P : sProp 𝕄) : sProp 𝕄 := if c then P else iprop(emp)

variable (XS : Buf (Elt F) (sM.view.loc (thr d i))) (XM : Buf (Elt F) (mM.view.loc (thr d i))) (XO G : Buf (Elt F) (oM.view.loc (thr d i)))
variable (O : CellTallies nD τ sig (HIx 1)) (W : Waits sig (HIx 1))

/-- What a copy into a buffer leaves there. -/
abbrev landed (B : Memref sig .scVector .vmem S9x9x128 .f32) (M : Memref sig .scVector .hbm S9x9x9x16384 .f32)
    (X : Buf (Elt F) (M.view.loc (thr d i))) (u : ℕ) : Buf (Elt F) (B.view.loc (thr d i)) :=
  B.view.writes (Elt F) B.view.junk [⟨Rect.whole S9x9x128, ReadAs.same.apply ((slab M (worker i) u).view.read (Elt F) X)⟩]

/-- The computation before group `k` of a unit: the inputs as they landed, the output done below `k`. -/
def during (A B C : Memref sig .scVector .vmem S9x9x128 .f32) (fa : Buf (Elt F) (A.view.loc (thr d i))) (fb : Buf (Elt F) (B.view.loc (thr d i)))
    (k : ℕ) : sProp 𝕄 :=
  iprop(bufP d i A fa ∗ bufP d i B fb ∗ ∃ f, bufP d i C f ∗ ⌜DoneBelow k (A.view.read (Elt F) fa) (B.view.read (Elt F) fb) (C.view.read (Elt F) f)⌝)

/-- One group of the computation. -/
theorem during_step (A A' B B' C C' : Memref sig .scVector .vmem S9x9x128 .f32) {hA hA' hB hB' hC hC'} {h2 h3 h4} {q1 q2 q3 q4 q5 q6} {v1 v2 t v215}
    (g : Fin k0_t2_loop.trips) (fa : Buf (Elt F) (A.view.loc (thr d i))) (fb : Buf (Elt F) (B.view.loc (thr d i))) :
    during d i A B C fa fb g.val ⊢ wp frame (wpE (defs₀ (F := F)) 𝒱₀ (thr d i) none) Set.univ
      (tripG i sM h2 mM h3 oM h4 A hA A' hA' B hB B' hB' C hC C' hC' q1 q2 q3 q4 q5 q6 v1 v2 t v215 g)
      fun _ => during d i A B C fa fb (g.val + 1) := by
  unfold during
  iintro ⟨H1, H2, %f, H3, %hf⟩
  have key := trip (d := d) (i := i) (arg2 := sM) (harg2 := h2) (arg3 := mM) (harg3 := h3) (arg4 := oM) (harg4 := h4) (arg5 := A) (harg5 := hA)
    (arg6 := A') (harg6 := hA') (arg7 := B) (harg7 := hB) (arg8 := B') (harg8 := hB') (arg9 := C) (harg9 := hC) (arg10 := C') (harg10 := hC')
    (arg11 := q1) (arg12 := q2) (arg13 := q3) (arg14 := q4) (arg15 := q5) (arg16 := q6) (v1 := v1) (v2 := v2) (t := t) (v215 := v215) g fa fb f hf
  iapply key
  isplitl [H1]; · iexact H1
  isplitl [H2]
  · iexact H2
  · iexact H3

/-- The same for the second slot, whose printed body names its buffers the other way around. -/
theorem during_step' (A A' B B' C C' : Memref sig .scVector .vmem S9x9x128 .f32) {hA hA' hB hB' hC hC'} {h2 h3 h4} {q1 q2 q3 q4 q5 q6} {v1 v2 t v215}
    (g : Fin k0_t2_loop.trips) (fa : Buf (Elt F) (A.view.loc (thr d i))) (fb : Buf (Elt F) (B.view.loc (thr d i))) :
    during d i A B C fa fb g.val ⊢ wp frame (wpE (defs₀ (F := F)) 𝒱₀ (thr d i) none) Set.univ
      (k0_t3_body (F := F) i sM h2 mM h3 oM h4 A' hA' A hA B' hB' B hB C' hC' C hC q1 q2 q3 q4 q5 q6 v1 v2 t v215 g ())
      fun _ => during d i A B C fa fb (g.val + 1) := by
  rw [second_body]
  exact during_step d i A A' B B' C C' g fa fb

theorem during_zero (A B C : Memref sig .scVector .vmem S9x9x128 .f32) {fa : Buf (Elt F) (A.view.loc (thr d i))} {fb : Buf (Elt F) (B.view.loc (thr d i))} :
    iprop(bufP d i A fa ∗ bufP d i B fb ∗ ∃ f, bufP d i C f) ⊢ during d i A B C fa fb 0 := by
  unfold during
  iintro ⟨H1, H2, %f, H3⟩
  isplitl [H1]; · iexact H1
  isplitl [H2]; · iexact H2
  iexists f; isplitl [H3]; · iexact H3
  ipureintro; exact fun y hy => absurd hy (Nat.not_lt_zero _)

/-- Once every group is done, the output buffer holds the unit of the result. -/
theorem good_of_done (A B C : Memref sig .scVector .vmem S9x9x128 .f32) (XS : Buf (Elt F) (sM.view.loc (thr d i))) (XM : Buf (Elt F) (mM.view.loc (thr d i)))
    (G : Buf (Elt F) (oM.view.loc (thr d i)))
    (hG : ∀ u, computed ((slab sM (worker i) u).view.read (Elt F) XS) ((slab mM (worker i) u).view.read (Elt F) XM) = (slab oM (worker i) u).view.read (Elt F) G)
    {u : ℕ} {f : Buf (Elt F) (C.view.loc (thr d i))}
    (h : DoneBelow (Scf.trips k0_t2_loop.lb k0_t2_loop.ub k0_t2_loop.st) (A.view.read (Elt F) (landed d i A sM XS u)) (B.view.read (Elt F) (landed d i B mM XM u)) (C.view.read (Elt F) f)) :
    Good d i C oM G u f := by
  have e : Scf.trips k0_t2_loop.lb k0_t2_loop.ub k0_t2_loop.st = 72 := by decide
  funext y
  have hy : groupOf y < 72 := by
    have h1 : (y 1).val < 9 := (y 1).isLt
    have h2 : (y 2).val < 128 := (y 2).isLt
    unfold groupOf; omega
  rw [h y (e ▸ hy), ← hG u]
  simp only [landed, View.read_writes_whole]

/-- A copy of a finished unit leaves the result in its slab. -/
theorem sent_eq (B : Memref sig .scVector .vmem S9x9x128 .f32) (XO G : Buf (Elt F) (oM.view.loc (thr d i))) {u : ℕ} {f : Buf (Elt F) (B.view.loc (thr d i))}
    (h : Good d i B oM G u f) :
    homeP d i oM ((slab oM (worker i) u).view.writes (Elt F) XO [⟨Rect.whole S9x9x128, ReadAs.same.apply (B.view.read (Elt F) f)⟩]) u = homeP d i oM G u := by
  unfold homeP
  rw [pointsTo_rep (thr d i) (slab oM (worker i) u), pointsTo_rep (thr d i) (slab oM (worker i) u) G]
  exact congrArg (fun x => ((slab oM (worker i) u).view.loc (thr d i) ↦[(slab oM (worker i) u).view.set]{fullShare} (slab oM (worker i) u).view.rep x : sProp 𝕄))
    ((View.read_writes_whole (slab oM (worker i) u).view XO _).trans h)

/-- What an output slot is about to hand back. -/
theorem out_mono (B : Memref sig .scVector .vmem S9x9x128 .f32) (s : DmaSem sig) (XO G : Buf (Elt F) (oM.view.loc (thr d i))) {u : ℕ} {f : Buf (Elt F) (B.view.loc (thr d i))}
    (h : Good d i B oM G u f) :
    fOut d i B oM s XO u f ⊢ Transfers.Flight countersEmb (thr d i) (SemLoc.dma s) (default : HIx 1) 331776 iprop(homeP d i oM G u ∗ bufP d i B f) := by
  unfold fOut
  rw [sent_eq d i B XO G h]

def before (t : ℕ) : sProp 𝕄 :=
  iprop(inSlot d i s0 sM cc0_scratch6.sem XS t (2 * t) ∗ inSlot d i m0 mM cc0_scratch8.sem XM t (2 * t)
       ∗ inSlot d i s1 sM cc0_scratch7.sem XS t (2 * t + 1) ∗ inSlot d i m1 mM cc0_scratch9.sem XM t (2 * t + 1)
       ∗ outSlot d i o0 cc0_scratch10.sem XO G t (2 * (t - 1)) ∗ outSlot d i o1 cc0_scratch11.sem XO G t (2 * (t - 1) + 1))

set_option maxHeartbeats 4000000 in
theorem outer (hG : ∀ u, computed ((slab sM (worker i) u).view.read (Elt F) XS) ((slab mM (worker i) u).view.read (Elt F) XM) = (slab oM (worker i) u).view.read (Elt F) G)
    (t : Fin k0_t1_loop.trips) (v1 v2 v109 c4 : BitVec 32) :
    iprop((Transfers.MayWaits (thr d i) (default : HIx 1) O ∗ dues d i O W ∗ before d i XS XM XO G t.val)
       ∗ homeP d i oM XO (2 * t.val) ∗ homeP d i oM XO (2 * t.val + 1)
       ∗ part (t.val < 17) (homeP d i sM XS (2 * (t.val + 1))) ∗ part (t.val < 17) (homeP d i mM XM (2 * (t.val + 1)))
       ∗ part (t.val < 17) (homeP d i sM XS (2 * (t.val + 1) + 1)) ∗ part (t.val < 17) (homeP d i mM XM (2 * (t.val + 1) + 1)))
      ⊢ wp frame (wpE (defs₀ (F := F)) 𝒱₀ (thr d i) none) Set.univ
          (k0_t1_body (F := F) i sM (Memref.isWhole_whole _) mM (Memref.isWhole_whole _) oM (Memref.isWhole_whole _) s0 (Memref.isWhole_whole _) s1 (Memref.isWhole_whole _)
            m0 (Memref.isWhole_whole _) m1 (Memref.isWhole_whole _) o0 (Memref.isWhole_whole _) o1 (Memref.isWhole_whole _)
            cc0_scratch6 cc0_scratch7 cc0_scratch8 cc0_scratch9 cc0_scratch10 cc0_scratch11 v1 v2 v109 c4 t ())
          fun _ => iprop((Transfers.MayWaits (thr d i) (default : HIx 1) O ∗ dues d i O W ∗ before d i XS XM XO G (t.val + 1))
            ∗ homeP d i sM XS (2 * t.val) ∗ homeP d i mM XM (2 * t.val) ∗ homeP d i sM XS (2 * t.val + 1) ∗ homeP d i mM XM (2 * t.val + 1)
            ∗ part (0 < t.val) (homeP d i oM G (2 * (t.val - 1))) ∗ part (0 < t.val) (homeP d i oM G (2 * (t.val - 1) + 1))) := by
  have ht : t.val < 18 := lt_of_lt_of_eq t.isLt (by decide)
  obtain ⟨c1, c3, c2, c4⟩ := cond_eq t
  have add : ∀ (s : DmaSem sig) {W' : Waits sig (HIx 1)}, (∀ p ∈ W', p ∈ W ∨ p.2 = none) → ∀ p ∈ insert (SemLoc.dma s, (default : HIx 1)) W', p ∈ W ∨ p.2 = none :=
    fun s W' h p hp => (Finset.mem_insert.1 hp).elim (fun e => Or.inr (e ▸ rfl)) (h p)
  unfold dues before inSlot outSlot
  simp (config := { iota := false, proj := false, eta := false }) only [ht, if_true, Nat.succ_pos, Nat.add_sub_cancel, show t.val + 1 < 18 ↔ t.val < 17 by omega]
  have hc : (¬ 0 < t.val ∧ t.val < 17) ∨ (0 < t.val ∧ t.val < 17) ∨ (0 < t.val ∧ ¬ t.val < 17) := by omega
  rcases hc with ⟨h, h'⟩ | ⟨h, h'⟩ | ⟨h, h'⟩
  all_goals
    have k1 := c1; have k2 := c2; have k3 := c3; have k4 := c4
    simp (config := { iota := false, proj := false, eta := false }) only [h, h', iff_true, iff_false] at k1 k2 k3 k4
    simp (config := { iota := false, proj := false, eta := false }) only [part, h, h', if_true, if_false]
    first
    | iintro ⟨⟨Hmw, ⟨%W₁, %hW₁, HO⟩, ⟨%f0, FS0⟩, ⟨%f2, FM0⟩, ⟨%f1, FS1⟩, ⟨%f3, FM1⟩, ⟨HP0, %p0, HP0_src⟩, ⟨HP1, %p1, HP1_src⟩⟩, HO0, HO1, NS0, NM0, NS1, NM1⟩
      have hW := add cc0_scratch9.sem (add cc0_scratch7.sem (add cc0_scratch8.sem (add cc0_scratch6.sem hW₁)))
    | iintro ⟨⟨Hmw, ⟨%W₁, %hW₁, HO⟩, ⟨%f0, FS0⟩, ⟨%f2, FM0⟩, ⟨%f1, FS1⟩, ⟨%f3, FM1⟩, ⟨%p0, %hp0, HP0⟩, ⟨%p1, %hp1, HP1⟩⟩, HO0, HO1, NS0, NM0, NS1, NM1⟩
      ihave HP0 := (out_mono d i o0 cc0_scratch10.sem XO G hp0) $$ HP0
      ihave HP1 := (out_mono d i o1 cc0_scratch11.sem XO G hp1) $$ HP1
      have hW := add cc0_scratch11.sem (add cc0_scratch9.sem (add cc0_scratch7.sem (add cc0_scratch10.sem (add cc0_scratch8.sem (add cc0_scratch6.sem hW₁)))))
    unfold k0_t1_body
    sl_exec
    sl_for (fun k (_ : Unit) => during d i s0 m0 o0 (landed d i s0 sM XS (2 * t.val)) (landed d i m0 mM XM (2 * t.val)) k) $$ [FS0_dst FM0_dst HP0_src]
    case region =>
      intro g _
      exact during_step d i s0 s1 m0 m1 o0 o1 g _ _
    · iapply (during_zero d i s0 m0 o0)
      isplitl [FS0_dst]; · iexact FS0_dst
      isplitl [FM0_dst]; · iexact FM0_dst
      iexists _; iexact HP0_src
    unfold during
    iintro %_ ⟨FS0_dst, FM0_dst, %q0, HP0_src, %hq0⟩
    have g0 := good_of_done d i s0 m0 o0 XS XM G hG hq0
    sl_exec
    sl_for (fun k (_ : Unit) => during d i s1 m1 o1 (landed d i s1 sM XS (2 * t.val + 1)) (landed d i m1 mM XM (2 * t.val + 1)) k) $$ [FS1_dst FM1_dst HP1_src]
    case region =>
      intro g _
      exact during_step' d i s1 s0 m1 m0 o1 o0 g _ _
    · iapply (during_zero d i s1 m1 o1)
      isplitl [FS1_dst]; · iexact FS1_dst
      isplitl [FM1_dst]; · iexact FM1_dst
      iexists _; iexact HP1_src
    unfold during
    iintro %_ ⟨FS1_dst, FM1_dst, %q1, HP1_src, %hq1⟩
    have g1 := good_of_done d i s1 m1 o1 XS XM G hG hq1
    sl_exec
    sl_step
    sl_close

end Trip

end Cert.Proof.Tile

end
-- ==== Proof.Worker.lean ====
module

public import proofs.«01_k».proof.Proof.Tile

@[expose] public section

noncomputable section

namespace Cert.Proof.Worker

open Cert.KernelIdeal Cert.KernelIdeal.Gen
open Cert.Proof.Geometry Cert.Proof.Lane Cert.Proof.Compute Cert.Proof.Tile
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The units, set by set -/

/-- The units whose inputs lie in their arrays before trip `t`. -/
def away (t : ℕ) : Finset ℕ := (Finset.range 36).filter fun u => u ≠ 2 * t ∧ u ≠ 2 * t + 1

/-- Those of them which trip `t` leaves there. -/
def still (t : ℕ) : Finset ℕ := ((away t).erase (2 * (t + 1))).erase (2 * (t + 1) + 1)

/-- The units not yet computed before trip `t`. -/
def todo (t : ℕ) : Finset ℕ := (Finset.range 36).filter fun u => 2 * t ≤ u

variable (φ : ℕ → sProp (MT nD τ sig (HIx 1) (Elt F) ℕ UU ℕ))

theorem away_open (t : ℕ) (ht : t < 18) :
    bigSep (away t) φ ⊢ iprop(part (t < 17) (φ (2 * (t + 1))) ∗ part (t < 17) (φ (2 * (t + 1) + 1)) ∗ bigSep (still t) φ) := by
  unfold still part
  by_cases h : t < 17
  · rw [if_pos h, if_pos h, BI.bigSep_erase (s := away t) (i := 2 * (t + 1)) (by simp only [away, Finset.mem_filter, Finset.mem_range]; omega),
      BI.bigSep_erase (s := (away t).erase (2 * (t + 1))) (i := 2 * (t + 1) + 1) (by simp only [away, Finset.mem_erase, Finset.mem_filter, Finset.mem_range]; omega)]
    exact .rfl
  · rw [if_neg h, if_neg h, Finset.erase_eq_of_notMem (a := 2 * (t + 1)) (by simp only [away, Finset.mem_filter, Finset.mem_range]; omega),
      Finset.erase_eq_of_notMem (by simp only [away, Finset.mem_filter, Finset.mem_range]; omega)]
    iintro H
    isplitr; · iempintro
    isplitr; · iempintro
    iexact H

theorem away_close (t : ℕ) (ht : t < 18) :
    iprop(φ (2 * t) ∗ φ (2 * t + 1) ∗ bigSep (still t) φ) ⊢ bigSep (away (t + 1)) φ := by
  rw [BI.bigSep_erase (s := away (t + 1)) (i := 2 * t) (by simp only [away, Finset.mem_filter, Finset.mem_range]; omega),
      BI.bigSep_erase (s := (away (t + 1)).erase (2 * t)) (i := 2 * t + 1) (by simp only [away, Finset.mem_erase, Finset.mem_filter, Finset.mem_range]; omega),
      show ((away (t + 1)).erase (2 * t)).erase (2 * t + 1) = still t by
        ext u; simp only [still, away, Finset.mem_erase, Finset.mem_filter, Finset.mem_range]; omega]
  exact .rfl

theorem away_last : away 18 = Finset.range 36 := by
  ext u; simp only [away, Finset.mem_filter, Finset.mem_range]; omega

theorem away_first : bigSep (Finset.range 36) φ ⊢ iprop(φ 0 ∗ φ 1 ∗ bigSep (away 0) φ) := by
  rw [BI.bigSep_erase (s := Finset.range 36) (i := 0) (by decide), BI.bigSep_erase (s := (Finset.range 36).erase 0) (i := 1) (by decide),
    show ((Finset.range 36).erase 0).erase 1 = away 0 by ext u; simp only [away, Finset.mem_erase, Finset.mem_filter, Finset.mem_range]; omega]
  exact .rfl

theorem todo_open (t : ℕ) (ht : t < 18) : bigSep (todo t) φ ⊢ iprop(φ (2 * t) ∗ φ (2 * t + 1) ∗ bigSep (todo (t + 1)) φ) := by
  rw [BI.bigSep_erase (s := todo t) (i := 2 * t) (by simp only [todo, Finset.mem_filter, Finset.mem_range]; omega),
      BI.bigSep_erase (s := (todo t).erase (2 * t)) (i := 2 * t + 1) (by simp only [todo, Finset.mem_erase, Finset.mem_filter, Finset.mem_range]; omega),
      show ((todo t).erase (2 * t)).erase (2 * t + 1) = todo (t + 1) by
        ext u; simp only [todo, Finset.mem_erase, Finset.mem_filter, Finset.mem_range]; omega]
  exact .rfl

theorem done_grow (n : ℕ) : iprop(φ n ∗ φ (n + 1) ∗ bigSep (Finset.range n) φ) ⊢ bigSep (Finset.range (n + 2)) φ := by
  rw [BI.bigSep_erase (s := Finset.range (n + 2)) (i := n) (by simp), BI.bigSep_erase (s := (Finset.range (n + 2)).erase n) (i := n + 1) (by simp),
    show ((Finset.range (n + 2)).erase n).erase (n + 1) = Finset.range n by ext u; simp only [Finset.mem_erase, Finset.mem_range]; omega]
  exact .rfl

theorem done_close (t : ℕ) :
    iprop(part (0 < t) (φ (2 * (t - 1))) ∗ part (0 < t) (φ (2 * (t - 1) + 1)) ∗ bigSep (Finset.range (2 * (t - 1))) φ) ⊢ bigSep (Finset.range (2 * t)) φ := by
  unfold part
  by_cases h : 0 < t
  · rw [if_pos h, if_pos h, show 2 * t = 2 * (t - 1) + 2 by omega]
    exact done_grow φ _
  · obtain rfl : t = 0 := by omega
    rw [if_neg h, if_neg h]
    iintro ⟨-, -, H⟩
    iexact H

/-! ## A worker's run -/

section Run
variable (d : Dev nD) (i : grid0.Coords)
variable (XS : Buf (Elt F) (sM.view.loc (thr d i))) (XM : Buf (Elt F) (mM.view.loc (thr d i))) (XO G : Buf (Elt F) (oM.view.loc (thr d i)))
variable (O : CellTallies nD τ sig (HIx 1)) (W : Waits sig (HIx 1))

/-- What a worker holds before trip `t`. -/
def inv (t : ℕ) : sProp 𝕄 :=
  iprop((Transfers.MayWaits (thr d i) (default : HIx 1) O ∗ dues d i O W ∗ before d i XS XM XO G t)
    ∗ bigSep (away t) (homeP d i sM XS) ∗ bigSep (away t) (homeP d i mM XM)
    ∗ bigSep (Finset.range (2 * (t - 1))) (homeP d i oM G) ∗ bigSep (todo t) (homeP d i oM XO))

theorem inv_step (hG : ∀ u, computed ((slab sM (worker i) u).view.read (Elt F) XS) ((slab mM (worker i) u).view.read (Elt F) XM) = (slab oM (worker i) u).view.read (Elt F) G)
    (t : Fin k0_t1_loop.trips) (v1 v2 v109 c4 : BitVec 32) :
    inv d i XS XM XO G O W t.val ⊢ wp frame (wpE (defs₀ (F := F)) 𝒱₀ (thr d i) none) Set.univ
          (k0_t1_body (F := F) i sM (Memref.isWhole_whole _) mM (Memref.isWhole_whole _) oM (Memref.isWhole_whole _) s0 (Memref.isWhole_whole _) s1 (Memref.isWhole_whole _)
            m0 (Memref.isWhole_whole _) m1 (Memref.isWhole_whole _) o0 (Memref.isWhole_whole _) o1 (Memref.isWhole_whole _)
            cc0_scratch6 cc0_scratch7 cc0_scratch8 cc0_scratch9 cc0_scratch10 cc0_scratch11 v1 v2 v109 c4 t ())
          fun _ => inv d i XS XM XO G O W (t.val + 1) := by
  have ht : t.val < 18 := lt_of_lt_of_eq t.isLt (by decide)
  unfold inv
  iintro ⟨HB, HS, HM, HG, HO⟩
  ihave ⟨S0, S1, HS⟩ := (away_open (homeP d i sM XS) t.val ht) $$ HS
  ihave ⟨M0, M1, HM⟩ := (away_open (homeP d i mM XM) t.val ht) $$ HM
  ihave ⟨O0, O1, HO⟩ := (todo_open (homeP d i oM XO) t.val ht) $$ HO
  iapply (wp_wand_r Idealize.ShloMosaic.frame (wpE (defs₀ (F := F)) 𝒱₀ (thr d i) none) Set.univ)
  isplitl [HB S0 S1 M0 M1 O0 O1]
  · iapply (outer d i XS XM XO G O W hG t v1 v2 v109 c4)
    isplitl [HB]; · iexact HB
    isplitl [O0]; · iexact O0
    isplitl [O1]; · iexact O1
    isplitl [S0]; · iexact S0
    isplitl [M0]; · iexact M0
    isplitl [S1]; · iexact S1
    iexact M1
  · iintro %_ ⟨HB, S0, M0, S1, M1, G0, G1⟩
    isplitl [HB]; · iexact HB
    isplitl [S0 S1 HS]
    · iapply (away_close (homeP d i sM XS) t.val ht)
      isplitl [S0]; · iexact S0
      isplitl [S1]; · iexact S1
      iexact HS
    isplitl [M0 M1 HM]
    · iapply (away_close (homeP d i mM XM) t.val ht)
      isplitl [M0]; · iexact M0
      isplitl [M1]; · iexact M1
      iexact HM
    isplitl [G0 G1 HG]
    · iapply (done_close (homeP d i oM G) t.val)
      isplitl [G0]; · iexact G0
      isplitl [G1]; · iexact G1
      iexact HG
    · iexact HO

set_option maxHeartbeats 4000000 in
/-- A worker from its start to its end: its band of the result computed, all else as it was. -/
theorem run (hG : ∀ u, computed ((slab sM (worker i) u).view.read (Elt F) XS) ((slab mM (worker i) u).view.read (Elt F) XM) = (slab oM (worker i) u).view.read (Elt F) G)
    (f0 f1 f2 f3 f4 f5) :
    iprop(Transfers.MayWaits (thr d i) (default : HIx 1) O ∗ owes (thr d i) O W
       ∗ bigSep (Finset.range 36) (homeP d i sM XS) ∗ bigSep (Finset.range 36) (homeP d i mM XM) ∗ bigSep (Finset.range 36) (homeP d i oM XO)
       ∗ bufP d i s0 f0 ∗ bufP d i s1 f1 ∗ bufP d i m0 f2 ∗ bufP d i m1 f3 ∗ bufP d i o0 f4 ∗ bufP d i o1 f5
       ∗ cellP d i cc0_scratch6.sem ∗ cellP d i cc0_scratch7.sem ∗ cellP d i cc0_scratch8.sem ∗ cellP d i cc0_scratch9.sem ∗ cellP d i cc0_scratch10.sem ∗ cellP d i cc0_scratch11.sem)
      ⊢ wp frame (wpE (defs₀ (F := F)) 𝒱₀ (thr d i) none) Set.univ
          (cc0__sc_select (F := F) i sM (Memref.isWhole_whole _) mM (Memref.isWhole_whole _) oM (Memref.isWhole_whole _) s0 (Memref.isWhole_whole _) s1 (Memref.isWhole_whole _)
            m0 (Memref.isWhole_whole _) m1 (Memref.isWhole_whole _) o0 (Memref.isWhole_whole _) o1 (Memref.isWhole_whole _)
            cc0_scratch6 cc0_scratch7 cc0_scratch8 cc0_scratch9 cc0_scratch10 cc0_scratch11)
          fun _ => iprop(dues d i O W
       ∗ bigSep (Finset.range 36) (homeP d i sM XS) ∗ bigSep (Finset.range 36) (homeP d i mM XM) ∗ bigSep (Finset.range 36) (homeP d i oM G)
       ∗ (∃ f, bufP d i s0 f) ∗ (∃ f, bufP d i s1 f) ∗ (∃ f, bufP d i m0 f) ∗ (∃ f, bufP d i m1 f) ∗ (∃ f, bufP d i o0 f) ∗ (∃ f, bufP d i o1 f)
       ∗ cellP d i cc0_scratch6.sem ∗ cellP d i cc0_scratch7.sem ∗ cellP d i cc0_scratch8.sem ∗ cellP d i cc0_scratch9.sem ∗ cellP d i cc0_scratch10.sem ∗ cellP d i cc0_scratch11.sem) := by
  iintro ⟨Hmw, HO, HS, HM, HU, B0, B1, B2, B3, B4, B5, C0, C1, C2, C3, C4, C5⟩
  ihave ⟨S0, S1, HS⟩ := (away_first (homeP d i sM XS)) $$ HS
  ihave ⟨M0, M1, HM⟩ := (away_first (homeP d i mM XM)) $$ HM
  simp only [cc0__sc_select_eq_skeleton]; unfold cc0__sc_select_skel
  sl_exec
  sl_for (fun k (_ : Unit) => inv d i XS XM XO G O W k) $$ [Hmw HO HS HM HU B4 B5 C0 C1 C2 C3 C4 C5]
  case region =>
    intro t _
    exact inv_step d i XS XM XO G O W hG t _ _ _ _
  · unfold inv
    isplitl [Hmw HO B4 B5 C0 C1 C2 C3 C4 C5]
    · unfold dues before inSlot outSlot
      simp (config := { iota := false, proj := false, eta := false }) only [show (0 : ℕ) < 18 by decide, show ¬ (0 : ℕ) < 0 by decide, if_true, if_false]
      have hW : ∀ p ∈ W, p ∈ W ∨ p.2 = none := fun p hp => Or.inl hp
      sl_close
    isplitl [HS]; · iexact HS
    isplitl [HM]; · iexact HM
    isplitr; · iempintro
    iexact HU
  unfold inv dues before inSlot outSlot
  have e : Scf.trips k0_t1_loop.lb k0_t1_loop.ub k0_t1_loop.st = 18 := by decide
  simp (config := { iota := false, proj := false, eta := false }) only [e, show ¬ (18 : ℕ) < 18 by decide, show (0 : ℕ) < 18 by decide, if_true, if_false, away_last]
  iintro %_ ⟨⟨Hmw, ⟨%W₁, %hW₁, HO⟩, ⟨C0, %f0, B0⟩, ⟨C2, %f2, B2⟩, ⟨C1, %f1, B1⟩, ⟨C3, %f3, B3⟩, ⟨%p0, %hp0, HP0⟩, ⟨%p1, %hp1, HP1⟩⟩, HS, HM, HG, -⟩
  ihave HP0 := (out_mono d i o0 cc0_scratch10.sem XO G hp0) $$ HP0
  ihave HP1 := (out_mono d i o1 cc0_scratch11.sem XO G hp1) $$ HP1
  sl_exec
  sl_step
  ihave HG := (done_grow (homeP d i oM G) 34) $$ [HP0_dst HP1_dst HG]
  · isplitl [HP0_dst]; · iexact HP0_dst
    isplitl [HP1_dst]; · iexact HP1_dst
    iexact HG
  have add : ∀ (s : DmaSem sig) {W' : Waits sig (HIx 1)}, (∀ p ∈ W', p ∈ W ∨ p.2 = none) → ∀ p ∈ insert (SemLoc.dma s, (default : HIx 1)) W', p ∈ W ∨ p.2 = none :=
    fun s W' h p hp => (Finset.mem_insert.1 hp).elim (fun e => Or.inr (e ▸ rfl)) (h p)
  have hW := add cc0_scratch11.sem (add cc0_scratch10.sem hW₁)
  sl_close

end Run

end Cert.Proof.Worker

end
-- ==== Proof.Bands.lean ====
/-
  The slabs as sets of places, and the array the kernel leaves.

  A place of the array belongs to the worker its lane's block of 512 names, and to one of that worker's 36 units. So the
  slabs of all workers are pairwise disjoint and make up the array, and an array held whole is the same as the slabs
  held one by one. What the kernel leaves at a place depends on the place's column of nine and on its mask only, so the
  value of a slab is the slab of the value.
-/
module

public import proofs.«01_k».proof.Proof.Worker
public import Idealize.ShloMosaic.Lib.SparseCore.Launch

@[expose] public section

noncomputable section

namespace Cert.Proof.Bands

open Cert.KernelIdeal Cert.KernelIdeal.Gen
open Cert.Proof.Geometry Cert.Proof.Lane Cert.Proof.Compute Cert.Proof.Tile
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Slabs as sets -/

/-- The places of unit `u` of worker `w`. -/
abbrev slabSet (w : Fin 32) (u : ℕ) : Finset S9x9x9x16384.Idx := (slabRect w u).set

/-- A place is in a slab when its block of 512 lanes is the worker's and its row and block of 128 lanes are the unit's. -/
theorem mem_slabSet (w : Fin 32) (u : ℕ) (y : S9x9x9x16384.Idx) :
    y ∈ slabSet w u ↔ (y 3).val / 512 = w.val ∧ 4 * (y 1).val + (y 3).val % 512 / 128 = (u + w.val) % 36 := by
  unfold slabSet slabRect
  rw [Rect.mem_set_unit]
  have h0 : (y 0).val < 9 := (y 0).isLt
  have h1 : (y 1).val < 9 := (y 1).isLt
  have h2 : (y 2).val < 9 := (y 2).isLt
  have h3 : (y 3).val < 16384 := (y 3).isLt
  constructor
  · intro H
    have a1 : (u + w.val) % 36 / 4 ≤ (y 1).val ∧ (y 1).val < (u + w.val) % 36 / 4 + 1 := H 1
    have a3 : 512 * w.val + 128 * ((u + w.val) % 36 % 4) ≤ (y 3).val ∧ (y 3).val < 512 * w.val + 128 * ((u + w.val) % 36 % 4) + 128 := H 3
    omega
  · rintro ⟨e, e'⟩ a
    fin_cases a
    · show 0 ≤ (y 0).val ∧ (y 0).val < 0 + 9; omega
    · show (u + w.val) % 36 / 4 ≤ (y 1).val ∧ (y 1).val < (u + w.val) % 36 / 4 + 1; omega
    · show 0 ≤ (y 2).val ∧ (y 2).val < 0 + 9; omega
    · show 512 * w.val + 128 * ((u + w.val) % 36 % 4) ≤ (y 3).val ∧ (y 3).val < 512 * w.val + 128 * ((u + w.val) % 36 % 4) + 128; omega

/-- The worker on subcore `s` of core `c`. -/
abbrev wk (c : Fin 2) (s : Fin 16) : Fin 32 := ⟨2 * s.val + c.val, by omega⟩

/-- All units of all workers, by core, subcore and unit. -/
abbrev units : Finset ((Fin 2 × Fin 16) × ℕ) := (Finset.univ ×ˢ Finset.univ) ×ˢ Finset.range 36

abbrev unitSet (p : (Fin 2 × Fin 16) × ℕ) : Finset S9x9x9x16384.Idx := slabSet (wk p.1.1 p.1.2) p.2

/-- Two different units have no place in common. -/
theorem units_disjoint : ∀ p ∈ units, ∀ q ∈ units, p ≠ q → Disjoint (unitSet p) (unitSet q) := by
  rintro ⟨⟨c, s⟩, u⟩ hp ⟨⟨c', s'⟩, u'⟩ hq hne
  have hu : u < 36 := Finset.mem_range.mp (Finset.mem_product.mp hp).2
  have hu' : u' < 36 := Finset.mem_range.mp (Finset.mem_product.mp hq).2
  refine Finset.disjoint_left.mpr fun y h h' => hne ?_
  obtain ⟨e1, e2⟩ := (mem_slabSet _ _ y).mp h
  obtain ⟨e3, e4⟩ := (mem_slabSet _ _ y).mp h'
  have g1 : (y 3).val / 512 = 2 * s.val + c.val := e1
  have g3 : (y 3).val / 512 = 2 * s'.val + c'.val := e3
  have g2 : 4 * (y 1).val + (y 3).val % 512 / 128 = (u + (2 * s.val + c.val)) % 36 := e2
  have g4 : 4 * (y 1).val + (y 3).val % 512 / 128 = (u' + (2 * s'.val + c'.val)) % 36 := e4
  have := c.isLt; have := c'.isLt
  have hc : c = c' := Fin.ext (by omega)
  have hs : s = s' := Fin.ext (by omega)
  subst hc hs
  have hu'' : u = u' := by omega
  rw [hu'']

set_option maxRecDepth 16384 in
/-- Every place is in some unit. -/
theorem units_cover : units.biUnion unitSet = Finset.univ := by
  refine Finset.eq_univ_iff_forall.mpr fun y => ?_
  have h1 : (y 1).val < 9 := (y 1).isLt
  have h3 : (y 3).val < 16384 := (y 3).isLt
  obtain ⟨c, t, u, hu, e1, e2⟩ : ∃ (c : Fin 2) (t : Fin 16) (u : ℕ), u < 36 ∧ (y 3).val / 512 = 2 * t.val + c.val
      ∧ 4 * (y 1).val + (y 3).val % 512 / 128 = (u + (2 * t.val + c.val)) % 36 :=
    ⟨⟨(y 3).val / 512 % 2, by omega⟩, ⟨(y 3).val / 512 / 2, by omega⟩,
      (4 * (y 1).val + (y 3).val % 512 / 128 + 36 - (y 3).val / 512) % 36, by omega, by show _ = 2 * (_ / 2) + _ % 2; omega, by
        show _ = (_ + (2 * ((y 3).val / 512 / 2) + (y 3).val / 512 % 2)) % 36; omega⟩
  exact Finset.mem_biUnion.mpr ⟨((c, t), u),
    Finset.mem_product.mpr ⟨Finset.mem_product.mpr ⟨Finset.mem_univ c, Finset.mem_univ t⟩, Finset.mem_range.mpr hu⟩,
    (mem_slabSet (wk c t) u y).mpr ⟨e1, e2⟩⟩

/-- The places of a slab of each of the three arrays, as the body addresses it. -/
theorem set_s (w : Fin 32) (u : ℕ) : (slab sM w u).view.set = slabSet w u :=
  (View.set_reshape _ _).trans (View.set_slice_whole main_v0_scv (slabRect w u))
theorem set_m (w : Fin 32) (u : ℕ) : (slab mM w u).view.set = slabSet w u :=
  (View.set_reshape _ _).trans (View.set_slice_whole main_v1_scv (slabRect w u))
theorem set_o (w : Fin 32) (u : ℕ) : (slab oM w u).view.set = slabSet w u :=
  (View.set_reshape _ _).trans (View.set_slice_whole main_v2_scv (slabRect w u))

/-! ## The array the kernel leaves -/

/-- The place of class `n` (the last for `n` over 8) in the column of `y`. -/
def column (y : S9x9x9x16384.Idx) (n : ℕ) : S9x9x9x16384.Idx
  | 0 => (⟨min n 8, by omega⟩ : Fin 9)
  | 1 => y 1
  | 2 => y 2
  | 3 => y 3

/-- What the kernel leaves: at each place the choice among the nine of its column, at its class and mask. -/
def result (XS XM : S9x9x9x16384.Idx → F .f32) : S9x9x9x16384.Idx → F .f32 :=
  fun y => chosen (fun n => XS (column y n)) (XM y) (y 0).val

/-- Where place `z` of a slab lies in the array. -/
def place (w : Fin 32) (u : ℕ) (z : S9x9x128.Idx) : S9x9x9x16384.Idx
  | 0 => z 0
  | 1 => (⟨(u + w.val) % 36 / 4, by omega⟩ : Fin 9)
  | 2 => z 1
  | 3 => (⟨512 * w.val + 128 * ((u + w.val) % 36 % 4) + (z 2).val, by have h : (z 2).val < 128 := (z 2).isLt; have := w.isLt; omega⟩ : Fin 16384)

/-- A place of the squeezed slab, with the axis of one put back. -/
def unsqueezed (z : S9x9x128.Idx) : S9x1x9x128.Idx
  | 0 => z 0
  | 1 => (0 : Fin 1)
  | 2 => z 1
  | 3 => z 2

theorem reshape_unsqueezed (h : S9x9x128.numel = S9x1x9x128.numel) (z : S9x9x128.Idx) : Shape.reshapeEquiv h z = unsqueezed z :=
  Shape.reshapeEquiv_eq_of_rowMajor h (by
    rw [Shape.rowMajor_val_four, Shape.rowMajor_val_three]
    show (((z 0).val * 1 + 0) * 9 + (z 1).val) * 128 + (z 2).val = ((z 0).val * 9 + (z 1).val) * 128 + (z 2).val
    omega)

/-- The slab's rectangle puts an unsqueezed place where `place` says. -/
theorem emb_place (w : Fin 32) (u : ℕ) (h : S9x9x128.numel = S9x1x9x128.numel) (z : S9x9x128.Idx) :
    (slabRect w u).emb (Shape.reshapeEquiv h z) = place w u z := by
  rw [show (Shape.reshapeEquiv h z : (slabRect w u).shape.Idx) = unsqueezed z from reshape_unsqueezed h z]
  refine funext fun a => Fin.ext ?_
  match a with
  | 0 => show 0 + 1 * (z 0).val = (z 0).val; omega
  | 1 => show (u + w.val) % 36 / 4 + 1 * 0 = (u + w.val) % 36 / 4; omega
  | 2 => show 0 + 1 * (z 1).val = (z 1).val; omega
  | 3 => show 512 * w.val + 128 * ((u + w.val) % 36 % 4) + 1 * (z 2).val = 512 * w.val + 128 * ((u + w.val) % 36 % 4) + (z 2).val; omega

theorem read_s (X : S9x9x9x16384.Idx → F .f32) (w : Fin 32) (u : ℕ) (z : S9x9x128.Idx) :
    (slab sM w u).view.read (Elt F) X z = X (place w u z) :=
  ((View.read_apply (v := (slab sM w u).view) _ _).trans (cast_eq _ _)).trans (congrArg X (emb_place w u _ z))
theorem read_m (X : S9x9x9x16384.Idx → F .f32) (w : Fin 32) (u : ℕ) (z : S9x9x128.Idx) :
    (slab mM w u).view.read (Elt F) X z = X (place w u z) :=
  ((View.read_apply (v := (slab mM w u).view) _ _).trans (cast_eq _ _)).trans (congrArg X (emb_place w u _ z))
theorem read_o (X : S9x9x9x16384.Idx → F .f32) (w : Fin 32) (u : ℕ) (z : S9x9x128.Idx) :
    (slab oM w u).view.read (Elt F) X z = X (place w u z) :=
  ((View.read_apply (v := (slab oM w u).view) _ _).trans (cast_eq _ _)).trans (congrArg X (emb_place w u _ z))

/-- The column of a slab's place is the slab's column. -/
theorem place_inColumn (w : Fin 32) (u : ℕ) (z : S9x9x128.Idx) (n : ℕ) : place w u (inColumn z n) = column (place w u z) n := by
  funext a
  match a with
  | 0 => rfl
  | 1 => rfl
  | 2 => rfl
  | 3 => rfl

/-- The value of a slab is the slab of the value. -/
theorem computed_slab (XS XM : S9x9x9x16384.Idx → F .f32) (w : Fin 32) (u : ℕ) :
    computed ((slab sM w u).view.read (Elt F) XS) ((slab mM w u).view.read (Elt F) XM)
      = (slab oM w u).view.read (Elt F) (result XS XM) := by
  funext z
  rw [read_o]
  unfold computed result
  rw [read_m]
  refine congrArg (fun v => chosen v (XM (place w u z)) (z 0).val) (funext fun n => ?_)
  rw [read_s, place_inColumn]

/-! ## An array held whole, held slab by slab -/

/-- A family over the units, by core, then subcore, then unit. -/
theorem units_bigSep (Φ : (Fin 2 × Fin 16) × ℕ → sProp 𝕄) :
    bigSep units Φ = bigSep Finset.univ fun c : Fin 2 => bigSep Finset.univ fun t : Fin 16 => bigSep (Finset.range 36) fun u => Φ ((c, t), u) := by
  rw [SparseCore.bigSep_product, SparseCore.bigSep_product]

abbrev sLoc (d : Dev nD) : Loc nD τ sig := (SparseCore.T d).loc main_v0
abbrev mLoc (d : Dev nD) : Loc nD τ sig := (SparseCore.T d).loc main_v1
abbrev oLoc (d : Dev nD) : Loc nD τ sig := (SparseCore.T d).loc main_v2

/-- An array held whole is its slabs, by core, subcore and unit: the patterns, -/
theorem s_slabs (d : Dev nD) (f : Buf (Elt F) (sLoc d)) :
    (sLoc d ↦{fullShare} f : sProp 𝕄)
      = bigSep Finset.univ fun c : Fin 2 => bigSep Finset.univ fun t : Fin 16 => bigSep (Finset.range 36) fun u => sLoc d ↦[slabSet (wk c t) u]{fullShare} f := by
  rw [← units_bigSep (fun p => (sLoc d ↦[unitSet p]{fullShare} f : sProp 𝕄)), ← pointsTo_biUnion units (ℓ := sLoc d) unitSet units_disjoint, units_cover]
/-- the masks, -/
theorem m_slabs (d : Dev nD) (f : Buf (Elt F) (mLoc d)) :
    (mLoc d ↦{fullShare} f : sProp 𝕄)
      = bigSep Finset.univ fun c : Fin 2 => bigSep Finset.univ fun t : Fin 16 => bigSep (Finset.range 36) fun u => mLoc d ↦[slabSet (wk c t) u]{fullShare} f := by
  rw [← units_bigSep (fun p => (mLoc d ↦[unitSet p]{fullShare} f : sProp 𝕄)), ← pointsTo_biUnion units (ℓ := mLoc d) unitSet units_disjoint, units_cover]
/-- and the result. -/
theorem o_slabs (d : Dev nD) (f : Buf (Elt F) (oLoc d)) :
    (oLoc d ↦{fullShare} f : sProp 𝕄)
      = bigSep Finset.univ fun c : Fin 2 => bigSep Finset.univ fun t : Fin 16 => bigSep (Finset.range 36) fun u => oLoc d ↦[slabSet (wk c t) u]{fullShare} f := by
  rw [← units_bigSep (fun p => (oLoc d ↦[unitSet p]{fullShare} f : sProp 𝕄)), ← pointsTo_biUnion units (ℓ := oLoc d) unitSet units_disjoint, units_cover]

end Cert.Proof.Bands

end
-- ==== Proof.Launch.lean ====
/-
  The launch: 32 subcores, each with its band of the arrays.

  Host code transposes the two operands so that the batch lies on the lanes; the SparseCore call computes the result in
  that layout; host code transposes it back. The call hands each subcore its 36 slabs of the three arrays, and has them
  back with the slabs of the result written. The run is stated for the exact program over any float values: arguments
  unchanged, the result the transpose of `result` at the transposed operands, every semaphore back at zero.
-/
module

public import proofs.«01_k».proof.Proof.Bands

@[expose] public section

noncomputable section

namespace Cert.Proof.Launch

open Cert.KernelIdeal Cert.KernelIdeal.Gen
open Cert.Proof.Geometry Cert.Proof.Lane Cert.Proof.Compute Cert.Proof.Tile Cert.Proof.Worker Cert.Proof.Bands
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v3

/-- An operand with the batch moved to the lanes. -/
abbrev toLanes (x : S16384x9x9x9.Idx → F .f32) : S9x9x9x16384.Idx → F .f32 :=
  transpose S9x9x9x16384 [1, 2, 3, 0] x transposes_S16384x9x9x9_S9x9x9x16384_1_2_3_0
/-- The result with the batch moved back to the front. -/
abbrev fromLanes (x : S9x9x9x16384.Idx → F .f32) : S16384x9x9x9.Idx → F .f32 :=
  transpose S16384x9x9x9 [3, 0, 1, 2] x transposes_S9x9x9x16384_S16384x9x9x9_3_0_1_2

/-- The two operands of the call. -/
def XS (d : Dev nD) : Buf (Elt F) (sLoc d) := toLanes (m (aLoc d))
def XM (d : Dev nD) : Buf (Elt F) (mLoc d) := toLanes (m (bLoc d))

variable [FloatOps F]

/-- The call's result. -/
def XR (d : Dev nD) : Buf (Elt F) (oLoc d) := result (XS m d) (XM m d)

/-! ## What the handshakes carry -/

/-- The slabs of worker `wk c t`: of the patterns, the masks, and the result at contents `f`. -/
abbrev sBand (d : Dev nD) (c : Fin 2) (t : Fin 16) : sProp 𝕄 := bigSep (Finset.range 36) fun u => sLoc d ↦[slabSet (wk c t) u]{fullShare} XS m d
abbrev mBand (d : Dev nD) (c : Fin 2) (t : Fin 16) : sProp 𝕄 := bigSep (Finset.range 36) fun u => mLoc d ↦[slabSet (wk c t) u]{fullShare} XM m d
abbrev oBand (d : Dev nD) (c : Fin 2) (t : Fin 16) (f : Buf (Elt F) (oLoc d)) : sProp 𝕄 :=
  bigSep (Finset.range 36) fun u => oLoc d ↦[slabSet (wk c t) u]{fullShare} f

/-- The three bands of a worker, the result's at contents `f`. -/
def share (d : Dev nD) (f : Buf (Elt F) (oLoc d)) (c : Fin 2) (t : Fin 16) : sProp 𝕄 :=
  iprop(sBand m d c t ∗ mBand m d c t ∗ oBand d c t f)

instance share_storable (d : Dev nD) (f : Buf (Elt F) (oLoc d)) (c : Fin 2) (t : Fin 16) : BI.Storable (upEmb : UEmb _ 𝕄) (share m d f c t) := by
  unfold share; infer_instance

theorem zero_of (q : Fin 1) : q = 0 := Subsingleton.elim _ _
/-- A call's core and subcore numbers (there is one call, on two cores of sixteen subcores). -/
def coreOf (q : Fin 1) (c : Fin ((K (F := F)).nCore q)) : Fin 2 := ⟨c.val, by have e := zero_of q; subst e; exact c.isLt⟩
def subOf (q : Fin 1) (i : Fin ((K (F := F)).nSub q)) : Fin 16 := ⟨i.val, by have e := zero_of q; subst e; exact i.isLt⟩

/-- Each core takes the shares of its sixteen subcores and brings them back; each subcore its own. -/
def P : (K (F := F)).Pay (nD := nD) (Val := Elt F) (Name := ℕ) (U := UU) where
  st := fun q d c => bigSep Finset.univ fun t : Fin 16 => share m d (m (oLoc d)) (coreOf q c) t
  dn := fun q d c => bigSep Finset.univ fun t : Fin 16 => share m d (XR m d) (coreOf q c) t
  go := fun q d c i => share m d (m (oLoc d)) (coreOf q c) (subOf q i)
  td := fun q d c i => share m d (XR m d) (coreOf q c) (subOf q i)
  x := fun _ _ => iprop(emp)

instance cores_storable (d : Dev nD) (f : Buf (Elt F) (oLoc d)) (c : Fin 2) :
    BI.Storable (upEmb : UEmb _ 𝕄) (bigSep Finset.univ fun t : Fin 16 => share m d f c t) := inferInstance

instance P_storable : (P (F := F) m).IsStorable where
  st q d c := cores_storable m d _ _
  dn q d c := cores_storable m d _ _
  go q d c i := share_storable m d _ _ _
  td q d c i := share_storable m d _ _ _

/-! ## The task -/

section Task

variable (d : Dev nD) (L : grid0.Coords)

abbrev cL (L : grid0.Coords) : Fin 2 := ⟨(L 0).val, (L 0).isLt⟩
abbrev tL (L : grid0.Coords) : Fin 16 := ⟨(L 1).val, (L 1).isLt⟩

omit [FloatOps F] in
theorem home_s (X : Buf (Elt F) (sLoc d)) (u : ℕ) : (homeP d L sM X u : sProp 𝕄) = sLoc d ↦[slabSet (wk (cL L) (tL L)) u]{fullShare} X := by
  unfold homeP; rw [set_s]; rfl
omit [FloatOps F] in
theorem home_m (X : Buf (Elt F) (mLoc d)) (u : ℕ) : (homeP d L mM X u : sProp 𝕄) = mLoc d ↦[slabSet (wk (cL L) (tL L)) u]{fullShare} X := by
  unfold homeP; rw [set_m]; rfl
omit [FloatOps F] in
theorem home_o (X : Buf (Elt F) (oLoc d)) (u : ℕ) : (homeP d L oM X u : sProp 𝕄) = oLoc d ↦[slabSet (wk (cL L) (tL L)) u]{fullShare} X := by
  unfold homeP; rw [set_o]; rfl

omit [FloatOps F] in
theorem homes_s (X : Buf (Elt F) (sLoc d)) : (bigSep (Finset.range 36) (homeP d L sM X) : sProp 𝕄)
    = bigSep (Finset.range 36) fun u => sLoc d ↦[slabSet (wk (cL L) (tL L)) u]{fullShare} X := bigSep_congr fun u _ => home_s d L X u
omit [FloatOps F] in
theorem homes_m (X : Buf (Elt F) (mLoc d)) : (bigSep (Finset.range 36) (homeP d L mM X) : sProp 𝕄)
    = bigSep (Finset.range 36) fun u => mLoc d ↦[slabSet (wk (cL L) (tL L)) u]{fullShare} X := bigSep_congr fun u _ => home_m d L X u
omit [FloatOps F] in
theorem homes_o (X : Buf (Elt F) (oLoc d)) : (bigSep (Finset.range 36) (homeP d L oM X) : sProp 𝕄)
    = bigSep (Finset.range 36) fun u => oLoc d ↦[slabSet (wk (cL L) (tL L)) u]{fullShare} X := bigSep_congr fun u _ => home_o d L X u

/-- The body's six semaphores and six buffers. -/
abbrev sems : Finset (DmaSem sig) := {cc0_scratch6.sem, cc0_scratch7.sem, cc0_scratch8.sem, cc0_scratch9.sem, cc0_scratch10.sem, cc0_scratch11.sem}
abbrev bufs : Finset (Ref sig .scVector) := {cc0_scratch0, cc0_scratch1, cc0_scratch2, cc0_scratch3, cc0_scratch4, cc0_scratch5}

theorem sems_scoped : ∀ s ∈ sems, (SemLoc.dma s : SemLoc sig).isScoped .scVector = true := by decide

/-- The cells of the six semaphores on a thread. -/
abbrev semCells : Finset (GSem nD τ sig) := sems.image fun s => (thr d L, SemLoc.dma s)
/-- The six buffers of a subcore. -/
abbrev bufRefs : Finset (DevRef τ sig) := bufs.image (Proc.scVector (cV L) (jV L)).devRef

theorem semCells_sub : semCells d L ⊆ ownCells (thr d L) := by
  intro g hg
  obtain ⟨s, hs, rfl⟩ := Finset.mem_image.mp hg
  exact mem_ownCells.mpr ⟨rfl, sems_scoped s hs⟩

theorem bufs_owner : ∀ b ∈ bufs, ∀ (c : Fin τ.nSC) (j : Fin τ.nSub), ((Proc.scVector c j).devRef b : DevRef τ sig).owner = .proc (.scVector c j) := by
  intro b hb c j
  simp only [Finset.mem_insert, Finset.mem_singleton] at hb
  rcases hb with rfl | rfl | rfl | rfl | rfl | rfl <;> rfl

theorem bufRefs_sub : bufRefs L ⊆ ownRefs (τ := τ) (.scVector (cV L) (jV L)) := by
  intro g hg
  obtain ⟨b, hb, rfl⟩ := Finset.mem_image.mp hg
  exact SparseCore.Cfg.mem_ownRefs_of_owner (p := Proc.scVector (cV L) (jV L)) (bufs_owner b hb _ _)

/-- A family over a set, split at a subset. -/
theorem bigSep_sub {I : Type} [DecidableEq I] {A B : Finset I} (h : A ⊆ B) (Φ : I → sProp 𝕄) : bigSep B Φ = iprop(bigSep A Φ ∗ bigSep (B \ A) Φ) := by
  conv_lhs => rw [← Finset.union_sdiff_of_subset h]
  exact bigSep_union Finset.disjoint_sdiff

/-- The subcore's semaphores: the body's six and the rest. -/
theorem ownSems0_V :
    (ownSems0 (thr d L) : sProp 𝕄)
      = iprop((cellP d L cc0_scratch6.sem ∗ cellP d L cc0_scratch7.sem ∗ cellP d L cc0_scratch8.sem ∗ cellP d L cc0_scratch9.sem ∗ cellP d L cc0_scratch10.sem
          ∗ cellP d L cc0_scratch11.sem) ∗ bigSep (ownCells (thr d L) \ semCells d L) fun g => semVal g 0) := by
  unfold SparseCore.Cfg.ownSems0
  rw [bigSep_sub (semCells_sub d L),
    SparseCore.bigSep_image_of_injOn (f := fun s : DmaSem sig => ((thr d L, SemLoc.dma s) : GSem nD τ sig)) (fun a _ b _ e => SemLoc.dma.inj (Prod.mk.inj e).2),
    SparseCore.bigSep_insert' (by decide), SparseCore.bigSep_insert' (by decide), SparseCore.bigSep_insert' (by decide), SparseCore.bigSep_insert' (by decide),
    SparseCore.bigSep_insert' (by decide), bigSep_singleton]

/-- A family over the six buffers, one by one. -/
theorem bufs_bigSep (Φ : Ref sig .scVector → sProp 𝕄) :
    bigSep bufs Φ = iprop(Φ cc0_scratch0 ∗ Φ cc0_scratch1 ∗ Φ cc0_scratch2 ∗ Φ cc0_scratch3 ∗ Φ cc0_scratch4 ∗ Φ cc0_scratch5) := by
  rw [SparseCore.bigSep_insert' (by decide), SparseCore.bigSep_insert' (by decide), SparseCore.bigSep_insert' (by decide), SparseCore.bigSep_insert' (by decide),
    SparseCore.bigSep_insert' (by decide), bigSep_singleton]

/-- The subcore's buffers: the body's six, at some contents, and the rest. -/
theorem ownBufs_V :
    (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f)
          ∗ (∃ f, (thr d L).loc cc0_scratch3 ↦{fullShare} f) ∗ (∃ f, (thr d L).loc cc0_scratch4 ↦{fullShare} f) ∗ (∃ f, (thr d L).loc cc0_scratch5 ↦{fullShare} f))
          ∗ bigSep (ownRefs (τ := τ) (.scVector (cV L) (jV L)) \ bufRefs L) fun b => iprop(∃ f, ((d, b) : Loc nD τ sig) ↦{fullShare} f)) := by
  unfold SparseCore.Cfg.ownBufs
  refine (bigSep_sub (bufRefs_sub L) _).trans ?_
  exact congrArg (fun A => iprop(A ∗ _)) ((SparseCore.bigSep_image_of_injOn (f := (Proc.scVector (cV L) (jV L)).devRef (τ := τ) (sig := sig)) (s := bufs)
    (fun a _ b _ e => Proc.devRef_injective _ e) _).trans (bufs_bigSep _))

/-- A whole buffer held, as the body's run names it. -/
theorem buf_eq (b : Ref sig .scVector) (f : Buf (Elt F) ((thr d L).loc b)) :
    ((View.whole b).loc (thr d L) ↦[(View.whole b).set]{fullShare} f : sProp 𝕄) = (thr d L).loc b ↦{fullShare} f := by
  rw [View.set_whole]

/-- What the library's launch hands a task, for the body's run: the waits below, the three bands, the buffers and the
    semaphores; and what the task hands back. -/
theorem tile_body (hF : (K (F := F)).Facts) (O : CellTallies nD τ sig (HIx 1)) (W : Waits sig (HIx 1)) (hO : ∀ g, O g none = 0) :
    iprop(levAts (K (F := F)).L (K (F := F)).lev ∗ emp
        ∗ share m d (m (oLoc d)) (cL L) (tL L)
        ∗ scopedBufs (thr d L) ∗ scopedSems0 (thr d L) ∗ owes (thr d L) O W)
      ⊢ wp frame (wpE (defs₀ (F := F)) 𝒱₀ (thr d L) none) Set.univ
          (cc0__sc_select (F := F) L sM (Memref.isWhole_whole _) mM (Memref.isWhole_whole _) oM (Memref.isWhole_whole _) s0 (Memref.isWhole_whole _) s1 (Memref.isWhole_whole _)
            m0 (Memref.isWhole_whole _) m1 (Memref.isWhole_whole _) o0 (Memref.isWhole_whole _) o1 (Memref.isWhole_whole _)
            cc0_scratch6 cc0_scratch7 cc0_scratch8 cc0_scratch9 cc0_scratch10 cc0_scratch11)
          fun _ => iprop(share m d (XR m d) (cL L) (tL L)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold share sBand mBand oBand
  rw [← homes_s, ← homes_m, ← homes_o, ← homes_o]
  iintro ⟨#Hlv, -, ⟨Hs, Hm, Ho⟩, ⟨⟨⟨%f0, B0⟩, ⟨%f1, B1⟩, ⟨%f2, B2⟩, ⟨%f3, B3⟩, ⟨%f4, B4⟩, ⟨%f5, B5⟩⟩, Hbufs⟩, ⟨⟨C0, C1, C2, C3, C4, C5⟩, Hsems⟩, HO⟩
  ihave Hmw := (show levAts (K (F := F)).L (K (F := F)).lev ⊢ Transfers.MayWaits (thr d L) (default : HIx 1) O from
    (K (F := F)).mayWaits_none (thr := thr d L) hO) $$ Hlv
  ihave B0 := (Entails.of_eq (buf_eq (F := F) d L cc0_scratch0 f0).symm) $$ B0
  ihave B1 := (Entails.of_eq (buf_eq (F := F) d L cc0_scratch1 f1).symm) $$ B1
  ihave B2 := (Entails.of_eq (buf_eq (F := F) d L cc0_scratch2 f2).symm) $$ B2
  ihave B3 := (Entails.of_eq (buf_eq (F := F) d L cc0_scratch3 f3).symm) $$ B3
  ihave B4 := (Entails.of_eq (buf_eq (F := F) d L cc0_scratch4 f4).symm) $$ B4
  ihave B5 := (Entails.of_eq (buf_eq (F := F) d L cc0_scratch5 f5).symm) $$ B5
  iapply (wp_wand_r Idealize.ShloMosaic.frame (wpE (defs₀ (F := F)) 𝒱₀ (thr d L) none) Set.univ) $$ [-]
  isplitr [Hbufs Hsems]
  · iapply (run d L (XS m d) (XM m d) (m (oLoc d)) (XR m d) O W (fun u => computed_slab (XS m d) (XM m d) (worker L) u) f0 f1 f2 f3 f4 f5) $$ [-]
    isplitl [Hmw]; · iexact Hmw
    isplitl [HO]; · iexact HO
    isplitl [Hs]; · iexact Hs
    isplitl [Hm]; · iexact Hm
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [C0]; · iexact C0
    isplitl [C1]; · iexact C1
    isplitl [C2]; · iexact C2
    isplitl [C3]; · iexact C3
    isplitl [C4]; · iexact C4
    iexact C5
  iintro %_ ⟨HO, Hs, Hm, Ho, ⟨%g0, B0⟩, ⟨%g1, B1⟩, ⟨%g2, B2⟩, ⟨%g3, B3⟩, ⟨%g4, B4⟩, ⟨%g5, B5⟩, C0, C1, C2, C3, C4, C5⟩
  isplitl [Hs Hm Ho]
  · isplitl [Hs]; · iexact Hs
    isplitl [Hm]; · iexact Hm
    iexact Ho
  isplitl [B0 B1 B2 B3 B4 B5 Hbufs]
  · isplitr [Hbufs]
    · isplitl [B0]; · iexists g0; iapply (Entails.of_eq (buf_eq (F := F) d L cc0_scratch0 g0)); iexact B0
      isplitl [B1]; · iexists g1; iapply (Entails.of_eq (buf_eq (F := F) d L cc0_scratch1 g1)); iexact B1
      isplitl [B2]; · iexists g2; iapply (Entails.of_eq (buf_eq (F := F) d L cc0_scratch2 g2)); iexact B2
      isplitl [B3]; · iexists g3; iapply (Entails.of_eq (buf_eq (F := F) d L cc0_scratch3 g3)); iexact B3
      isplitl [B4]; · iexists g4; iapply (Entails.of_eq (buf_eq (F := F) d L cc0_scratch4 g4)); iexact B4
      iexists g5; iapply (Entails.of_eq (buf_eq (F := F) d L cc0_scratch5 g5)); iexact B5
    iexact Hbufs
  isplitl [C0 C1 C2 C3 C4 C5 Hsems]
  · isplitr [Hsems]
    · isplitl [C0]; · iexact C0
      isplitl [C1]; · iexact C1
      isplitl [C2]; · iexact C2
      isplitl [C3]; · iexact C3
      isplitl [C4]; · iexact C4
      iexact C5
    iexact Hsems
  unfold dues
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_select (F := F) (coordsV c s) sM (Memref.isWhole_whole _) mM (Memref.isWhole_whole _) oM (Memref.isWhole_whole _)
            s0 (Memref.isWhole_whole _) s1 (Memref.isWhole_whole _)
            m0 (Memref.isWhole_whole _) m1 (Memref.isWhole_whole _) o0 (Memref.isWhole_whole _) o1 (Memref.isWhole_whole _)
            cc0_scratch6 cc0_scratch7 cc0_scratch8 cc0_scratch9 cc0_scratch10 cc0_scratch11) ⟨⟩ c s := rfl

omit [FloatOps F] in
theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task's body, from what the launch hands it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Task

/-! ## The cores' shares -/

theorem bigSep_tasks (Φ : Fin 16 → sProp 𝕄) :
    (bigSep Finset.univ fun i : Fin ((K (F := F)).nSub 0) => Φ (subOf 0 i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (coreOf 0 c)) = bigSep Finset.univ Φ :=
  bigSep_congr fun _ _ => congrArg Φ (Fin.ext rfl)

/-- A core deals its shares to its subcores, and has them back. -/
theorem vecSplit : (K (F := F)).VecSplit' (P m) 0 := by
  intro d c
  unfold P; dsimp only
  rw [bigSep_tasks (F := F) (fun t => share m d (m (oLoc d)) (coreOf 0 c) t), bigSep_tasks (F := F) (fun t => share m d (XR m d) (coreOf 0 c) t)]
  iintro H; imodintro
  isplitl [H]; · iexact H
  iintro H; iexact H

/-- The three arrays whole are the shares of all subcores of both cores. -/
theorem arrays_shares (d : Dev nD) (f : Buf (Elt F) (oLoc d)) :
    (iprop((sLoc d ↦{fullShare} XS m d) ∗ (mLoc d ↦{fullShare} XM m d) ∗ oLoc d ↦{fullShare} f) : sProp 𝕄)
      = bigSep Finset.univ fun c : Fin 2 => bigSep Finset.univ fun t : Fin 16 => share m d f c t := by
  unfold share
  rw [s_slabs, m_slabs, o_slabs]
  simp only [bigSep_sep']

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P m).x q th) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun th : Thread nD τ => bigSep Finset.univ fun q : Fin 1 => (P (F := F) m).x q th) = bigSep Finset.univ fun _ => iprop(emp) from
    bigSep_congr fun _ _ => bigSep_univ_of_subsingleton (0 : Fin 1), bigSep_emp']
  iempintro

end Cert.Proof.Launch

end
-- ==== Proof.Run.lean ====
/-
  The run of the exact program, over any float values.

  @main on the TensorCore: the two transposes, the call on the three arrays, the transpose back. From it the run of all
  threads: it ends with the arguments as they were, the result the transpose of what the call leaves, and every
  semaphore at zero. The frames of the exact program and of the kernel as written, which have the same text, are this
  run at the two kinds of values.
-/
module

public import proofs.«01_k».proof.Proof.Launch
public import proofs.«01_k».proof.Proof.Gen.Kernel

@[expose] public section

noncomputable section

namespace Cert.Proof.Run

open Cert.KernelIdeal Cert.KernelIdeal.Gen
open Cert.Proof.Compute Cert.Proof.Bands Cert.Proof.Launch
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The host's arrays -/

abbrev a' : DevRef τ sig := Proc.devRef .tc (main_arg0 : Ref sig .tc)
abbrev b' : DevRef τ sig := Proc.devRef .tc (main_arg1 : Ref sig .tc)
abbrev s' : DevRef τ sig := Proc.devRef .tc (main_v0 : Ref sig .tc)
abbrev m' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- All of the TensorCore's arrays. -/
abbrev S6 : Finset (DevRef τ sig) := {a', b', s', m', o', r'}

abbrev op0 : HloOp τ sig (Elt F) := StableHlo.unary main_arg0 main_v0 (toLanes (F := F))
abbrev op1 : HloOp τ sig (Elt F) := StableHlo.unary main_arg1 main_v1 (toLanes (F := F))
abbrev op2 : HloOp τ sig (Elt F) := StableHlo.unary main_v2 main_v3 (fromLanes (F := F))

theorem held_S6 (d : Dev nD) (W : Valuation τ sig (Elt F)) :
    (held (T d) S6 W : sProp 𝕄) = iprop((aLoc d ↦{fullShare} W a') ∗ (bLoc d ↦{fullShare} W b') ∗ (sLoc d ↦{fullShare} W s')
      ∗ (mLoc d ↦{fullShare} W m') ∗ (oLoc d ↦{fullShare} W o') ∗ rLoc d ↦{fullShare} W r') := by
  unfold held S6
  rw [SparseCore.bigSep_insert' (by decide), SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (sLoc d ↦{fullShare} W main_v0)
      ∗ (mLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

/-- The arrays at launch; -/
def V0 (d : Dev nD) : Valuation τ sig (Elt F) := fun b => m (d, b)
/-- before the call, -/
def V2 (d : Dev nD) : Valuation τ sig (Elt F) := (op1 (F := F)).result ((op0 (F := F)).result (V0 m d))

theorem unscoped_held (d : Dev nD) : (unscopedBufs d (fun b => m ((SparseCore.T d).loc b)) : sProp 𝕄) = held (T d) S6 (V0 m d) := by
  rw [unscopedBufs_eq, held_S6]; rfl

theorem V2_a (d : Dev nD) : V2 m d a' = m (aLoc d) :=
  (StableHlo.unary_result_ne _ _ _ _ _ _ (show main_arg0 ≠ main_v1 by decide)).trans (StableHlo.unary_result_ne _ _ _ _ _ _ (show main_arg0 ≠ main_v0 by decide))
theorem V2_b (d : Dev nD) : V2 m d b' = m (bLoc d) :=
  (StableHlo.unary_result_ne _ _ _ _ _ _ (show main_arg1 ≠ main_v1 by decide)).trans (StableHlo.unary_result_ne _ _ _ _ _ _ (show main_arg1 ≠ main_v0 by decide))
theorem V2_s (d : Dev nD) : V2 m d s' = XS m d :=
  (StableHlo.unary_result_ne _ _ _ _ _ _ (show main_v0 ≠ main_v1 by decide)).trans (StableHlo.unary_result _ _ _ _ _ _)
theorem V2_m (d : Dev nD) : V2 m d m' = XM m d :=
  (StableHlo.unary_result _ _ _ _ _ _).trans (congrArg toLanes (StableHlo.unary_result_ne _ _ _ _ _ _ (show main_arg1 ≠ main_v0 by decide)))
theorem V2_o (d : Dev nD) : V2 m d o' = m (oLoc d) :=
  (StableHlo.unary_result_ne _ _ _ _ _ _ (show main_v2 ≠ main_v1 by decide)).trans (StableHlo.unary_result_ne _ _ _ _ _ _ (show main_v2 ≠ main_v0 by decide))

/-- The arrays before the call, one by one. -/
theorem before_call (d : Dev nD) :
    (held (T d) S6 ((op1 (F := F)).result ((op0 (F := F)).result (V0 m d))) : sProp 𝕄)
      = iprop((aLoc d ↦{fullShare} m (aLoc d)) ∗ (bLoc d ↦{fullShare} m (bLoc d)) ∗ (sLoc d ↦{fullShare} XS m d)
        ∗ (mLoc d ↦{fullShare} XM m d) ∗ (oLoc d ↦{fullShare} m (oLoc d)) ∗ rLoc d ↦{fullShare} V2 m d r') :=
  (held_S6 (F := F) d (V2 m d)).trans (by rw [V2_a, V2_b, V2_s, V2_m, V2_o])

theorem hop0 : (op0 (F := F)).bufs ⊆ S6 := show ({a', s'} : Finset (DevRef τ sig)) ⊆ S6 by decide
theorem hop1 : (op1 (F := F)).bufs ⊆ S6 := show ({b', m'} : Finset (DevRef τ sig)) ⊆ S6 by decide
theorem hop2 : (op2 (F := F)).bufs ⊆ S6 := show ({o', r'} : Finset (DevRef τ sig)) ⊆ S6 by decide

variable [FloatOps F]

/-- and after the call, the result's array at what the call leaves. -/
def V3 (d : Dev nD) : Valuation τ sig (Elt F) := Function.update (V2 m d) o' (XR m d)

theorem V3_of_ne (d : Dev nD) {x : DevRef τ sig} (h : x ≠ o') : V3 m d x = V2 m d x := Function.update_of_ne h _ _
theorem V3_o (d : Dev nD) : V3 m d o' = XR m d := Function.update_self _ _ _

/-- The result of the program. -/
def out (d : Dev nD) : Buf (Elt F) (rLoc d) := fromLanes (XR m d)

theorem end_a (d : Dev nD) : (op2 (F := F)).result (V3 m d) a' = m (aLoc d) :=
  (StableHlo.unary_result_ne _ _ _ _ _ _ (show main_arg0 ≠ main_v3 by decide)).trans ((V3_of_ne m d (by decide)).trans (V2_a m d))
theorem end_b (d : Dev nD) : (op2 (F := F)).result (V3 m d) b' = m (bLoc d) :=
  (StableHlo.unary_result_ne _ _ _ _ _ _ (show main_arg1 ≠ main_v3 by decide)).trans ((V3_of_ne m d (by decide)).trans (V2_b m d))
theorem end_r (d : Dev nD) : (op2 (F := F)).result (V3 m d) r' = out m d :=
  (StableHlo.unary_result _ _ _ _ _ _).trans (congrArg fromLanes (V3_o m d))

/-! ## What the call takes and brings back -/

theorem st0_eq (d : Dev nD) : (bigSep Finset.univ fun c : Fin ((K (F := F)).nCore 0) => (P m).st 0 d c)
    = iprop((sLoc d ↦{fullShare} XS m d) ∗ (mLoc d ↦{fullShare} XM m d) ∗ oLoc d ↦{fullShare} m (oLoc d)) := by
  rw [arrays_shares]
  exact bigSep_cores (F := F) fun c => bigSep Finset.univ fun t : Fin 16 => share m d (m (oLoc d)) c t
theorem dn0_eq (d : Dev nD) : (bigSep Finset.univ fun c : Fin ((K (F := F)).nCore 0) => (P m).dn 0 d c)
    = iprop((sLoc d ↦{fullShare} XS m d) ∗ (mLoc d ↦{fullShare} XM m d) ∗ oLoc d ↦{fullShare} XR m d) := by
  rw [arrays_shares]
  exact bigSep_cores (F := F) fun c => bigSep Finset.univ fun t : Fin 16 => share m d (XR m d) c t

/-- What @main leaves the claim: the arguments as they were, and the result. -/
abbrev FIN (d : Dev nD) : sProp 𝕄 := iprop((aLoc d ↦{fullShare} m (aLoc d)) ∗ (bLoc d ↦{fullShare} m (bLoc d)) ∗ rLoc d ↦{fullShare} out m d)

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S6) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S6) hop1 (V := (op0 (F := F)).result (V0 m d))) $$ [Hb Hheld]
  · isplitl [Hb] <;> iassumption
  iintro ⟨Hb, Hheld⟩
  rw [wp_ret]; imodintro
  ihave Hh := (Entails.of_eq (before_call m d)) $$ Hheld
  icases Hh with ⟨Ha, Hbb, Hs, Hm, Ho, Hr⟩
  iapply ((K (F := F)).wp_run (D (F := F)) 𝒱 (EH := EH) (P := P m) κ d 0) $$ [Hst Ha Hbb Hs Hm Ho Hr Hb Hts]
  isplitr; · iexact Hctx
  isplitl [Hst]; · iexact Hst
  isplitl [Hs Hm Ho]
  · rw [st0_eq]
    isplitl [Hs]; · iexact Hs
    isplitl [Hm]; · iexact Hm
    iexact Ho
  iintro ⟨Hst, Hdn⟩
  ihave Hdn' := (Entails.of_eq (dn0_eq m d)) $$ Hdn
  icases Hdn' with ⟨Hs, Hm, Ho⟩
  iapply (wp_hlo_within 𝒱 (SparseCore.T d) none Set.univ (op := op2) (S := S6) hop2 (V := V3 m d)) $$ [Hb Ha Hbb Hs Hm Ho Hr]
  · isplitl [Hb]; · iexact Hb
    rw [held_S6, V3_o, V3_of_ne m d (x := a') (by decide), V3_of_ne m d (x := b') (by decide), V3_of_ne m d (x := s') (by decide),
      V3_of_ne m d (x := m') (by decide), V3_of_ne m d (x := r') (by decide), V2_a, V2_b, V2_s, V2_m]
    isplitl [Ha]; · iexact Ha
    isplitl [Hbb]; · iexact Hbb
    isplitl [Hs]; · iexact Hs
    isplitl [Hm]; · iexact Hm
    isplitl [Ho]; · iexact Ho
    iexact Hr
  iintro ⟨Hb, Hheld⟩
  ihave Hh := (Entails.of_eq ((held_S6 (F := F) d ((op2 (F := F)).result (V3 m d))).trans (by rw [end_a, end_b, end_r]))) $$ Hheld
  icases Hh with ⟨Ha, Hbb, -, -, -, Hr⟩
  rw [wp_ret]; imodintro; imodintro
  isplitl [Hst]; · iexact Hst
  isplitr [Hb Hts]
  · isplitl [Ha]; · iexact Ha
    isplitl [Hbb]; · iexact Hbb
    iexact Hr
  isplitl [Hb] <;> iassumption

def fq (d : Dev nD) (s : Phys nD τ sig (Elt F)) : Prop :=
  s.mem.mem (aLoc d) = m (aLoc d) ∧ s.mem.mem (bLoc d) = m (bLoc d) ∧ s.mem.mem (rLoc d) = out m d

set_option maxRecDepth 16384 in
theorem hfin (d : Dev nD) (s : Phys nD τ sig (Elt F)) : iprop(FIN m d ∗ SI s) ⊢ (⌜fq m d s⌝ : sProp 𝕄) := by
  iintro ⟨⟨Ha, Hb, Hr⟩, HSI⟩
  ihave H := (persistent_entails_right (SI_pointsTo_agree (st := s) (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s) (ℓ := bLoc d) (I := Finset.univ) (q := fullShare) (f := m (bLoc d)))) $$ [HSI Hb]
  · isplitl [HSI] <;> iassumption
  icases H with ⟨%h2, HSI, -⟩
  ihave H := (SI_pointsTo_agree (st := s) (ℓ := rLoc d) (I := Finset.univ) (q := fullShare) (f := out m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The run and the frames -/

def QC : PUnit × MemSt nD τ sig (Elt F) → Prop := fun r =>
  (∀ c : Dev nD, r.2.mem (aLoc c) = m (aLoc c) ∧ r.2.mem (bLoc c) = m (bLoc c) ∧ r.2.mem (rLoc c) = out m c) ∧ r.2.sem = fun _ => 0

/-- Every fair run of the exact program ends, faulting nowhere, with the arguments unchanged, the result `out`, and every
    semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The exact program's frame. -/
theorem frame_exact : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The kernel's frame: it has the exact program's text. -/
theorem frame_kernel : Cert.quiescent_Kernel (hKernel := Cert.Kernel.Gen.facts) := fun m ρ _ =>
  (θ_run Cert.KernelIdeal.defs _ _).mono (fun _ h => ⟨fun c => ⟨(h.1 c).1, (h.1 c).2.1⟩, h.2⟩) (run_main (F := Bits) m ρ)

end Cert.Proof.Run

end
-- ==== Proof.Reference.lean ====
/-
  The run of the reference.

  The reference is a straight line of StableHLO operations on the TensorCore: the classes moved last, the maximum and
  its class along them, the one-hot array of that class times the maximum, the classes moved back, and the product
  with the mask. This module states that line, the term it leaves at the result, and the run.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.Reference

open Cert.ReferenceIdeal Cert.ReferenceIdeal.Gen
open Idealize.ShloMosaic Idealize.ShloMosaic.TcCoe Idealize.ShloMosaic.StableHlo Idealize.SL.Sem

variable {F : FTy → Type} [FloatOps F]

/-! ## The term the reference computes -/

/-- The scores with the two inner axes flattened and the classes last. -/
def scores (x : FVec F S16384x9x9x9 .f32) : FVec F S16384x81x1x9 .f32 :=
  shapeCast S16384x81x1x9
    (shapeCast S16384x81x9 (transpose S16384x9x9x9 [0, 3, 2, 1] x transposes_S16384x9x9x9_S16384x9x9x9_0_3_2_1)
      shapeCasts_S16384x9x9x9_S16384x81x9) shapeCasts_S16384x81x9_S16384x81x1x9

/-- The maximum along the classes. -/
def top (s : FVec F S16384x81x1x9 .f32) : FVec F S16384x81x1 .f32 :=
  Host.reduce FloatOps.maximumf s (constant S_ .f32 0xFF800000#32) reducesTo_S16384x81x1x9_S16384x81x1_d3 h_S_

/-- The class at which the maximum is first met. -/
def topAt (s : FVec F S16384x81x1x9 .f32) : IVec S16384x81x1 32 := fun j =>
  (Host.argReduce reducer_argmax_f32_i32 s (iotaInDim S16384x81x1x9 32 3) (constant S_ .f32 0xFF800000#32) (constantI S_ 32 0#32)
    reducesTo_S16384x81x1x9_S16384x81x1_d3 h_S_ j).2

/-- One at the class `i` of a row and zero at the others, as floats. -/
def oneHot (i : IVec S16384x81x1 32) : FVec F S16384x81x1x9 .f32 :=
  uitofp .f32 (cmpi .eq
    (broadcastInDim S16384x81x1x9 ![0, 1, 2, 3] bcast_S16384x81x1x1_S16384x81x1x9_0_1_2_3
      (broadcastInDim S16384x81x1x1 ![0, 1, 2] bcast_S16384x81x1_S16384x81x1x1_0_1_2 i))
    (broadcastInDim S16384x81x1x9 ![0, 1, 2, 3] bcast_S1x1x1x9_S16384x81x1x9_0_1_2_3 (iotaInDim S1x1x1x9 32 3)))

/-- The one-hot array of the arg-max, times the maximum. -/
def peaks (s : FVec F S16384x81x1x9 .f32) : FVec F S16384x81x1x9 .f32 :=
  mulf (oneHot (topAt s))
    (broadcastInDim S16384x81x1x9 ![0, 1, 2, 3] bcast_S16384x81x1x1_S16384x81x1x9_0_1_2_3
      (broadcastInDim S16384x81x1x1 ![0, 1, 2] bcast_S16384x81x1_S16384x81x1x1_0_1_2 (top s)))

/-- The classes moved back to the second axis. -/
def unflat (p : FVec F S16384x81x1x9 .f32) : FVec F S16384x9x9x9 .f32 :=
  transpose S16384x9x9x9 [0, 3, 2, 1]
    (shapeCast S16384x9x9x9 (shapeCast S16384x81x9 p shapeCasts_S16384x81x1x9_S16384x81x9) shapeCasts_S16384x81x9_S16384x9x9x9)
    transposes_S16384x9x9x9_S16384x9x9x9_0_3_2_1

/-- What the reference returns, of its two arguments. -/
def ref (x y : FVec F S16384x9x9x9 .f32) : FVec F S16384x9x9x9 .f32 := mulf (unflat (peaks (scores x))) y

/-! ## The line of operations -/

/-- @main's operations, in order, the two functions' at their calls. -/
abbrev ops : List (HloOp τ sig (Elt F)) :=
  [ unary main_arg0 main_v0 (transpose S16384x9x9x9 [0, 3, 2, 1] · transposes_S16384x9x9x9_S16384x9x9x9_0_3_2_1),
    reshape main_v0 main_v1 rfl shapeCasts_S16384x9x9x9_S16384x81x9,
    reshape main_v1 main_v2 rfl shapeCasts_S16384x81x9_S16384x81x1x9,
    nullary main_cst (constant S_ .f32 0xFF800000#32),
    binary main_v2 main_cst main_v3 (fun x v => Host.reduce FloatOps.maximumf x v reducesTo_S16384x81x1x9_S16384x81x1_d3 h_S_),
    nullary main_call0_v0 (iotaInDim S16384x81x1x9 32 3),
    nullary main_call0_cst (constant S_ .f32 0xFF800000#32),
    nullary main_call0_c (constantI S_ 32 0#32),
    quaternary main_v2 main_call0_v0 main_call0_cst main_call0_c main_call0_v1_0 (fun x y u v j =>
      (Host.argReduce reducer_argmax_f32_i32 x y u v reducesTo_S16384x81x1x9_S16384x81x1_d3 h_S_ j).1),
    quaternary main_v2 main_call0_v0 main_call0_cst main_call0_c main_v4 (fun x y u v j =>
      (Host.argReduce reducer_argmax_f32_i32 x y u v reducesTo_S16384x81x1x9_S16384x81x1_d3 h_S_ j).2),
    unary main_v4 main_call1_v0 (broadcastInDim S16384x81x1x1 ![0, 1, 2] bcast_S16384x81x1_S16384x81x1x1_0_1_2),
    nullary main_call1_v1 (iotaInDim S1x1x1x9 32 3),
    unary main_call1_v0 main_call1_v2 (broadcastInDim S16384x81x1x9 ![0, 1, 2, 3] bcast_S16384x81x1x1_S16384x81x1x9_0_1_2_3),
    unary main_call1_v1 main_call1_v3 (broadcastInDim S16384x81x1x9 ![0, 1, 2, 3] bcast_S1x1x1x9_S16384x81x1x9_0_1_2_3),
    binary main_call1_v2 main_call1_v3 main_call1_v4 (cmpi .eq),
    unary main_call1_v4 main_v5 (uitofp .f32),
    unary main_v3 main_v6 (broadcastInDim S16384x81x1x1 ![0, 1, 2] bcast_S16384x81x1_S16384x81x1x1_0_1_2),
    unary main_v6 main_v7 (broadcastInDim S16384x81x1x9 ![0, 1, 2, 3] bcast_S16384x81x1x1_S16384x81x1x9_0_1_2_3),
    binary main_v5 main_v7 main_v8 mulf,
    reshape main_v8 main_v9 rfl shapeCasts_S16384x81x1x9_S16384x81x9,
    reshape main_v9 main_v10 rfl shapeCasts_S16384x81x9_S16384x9x9x9,
    unary main_v10 main_v11 (transpose S16384x9x9x9 [0, 3, 2, 1] · transposes_S16384x9x9x9_S16384x9x9x9_0_3_2_1),
    binary main_v11 main_arg1 main_v12 mulf ]

/-- @main is that line. -/
theorem main_eq (c : Dev nD) : main (F := F) c = seq ops := by
  simp only [main, fn_argmax.body, fn_one_hot.body, seq, bind_assoc, pure_bind]
  rfl

/-- The line leaves `ref` of the arguments at the result, -/
theorem out_eq (V : Valuation τ sig (Elt F)) :
    after ops V (main_v12 : DevRef τ sig) = ref (V (main_arg0 : DevRef τ sig)) (V (main_arg1 : DevRef τ sig)) := by
  after_results_simp
  rfl

/-- and the arguments as they were. -/
theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., reshape_bufs_sub .., nullary_bufs_sub .., binary_bufs_sub .., nullary_bufs_sub ..,
    nullary_bufs_sub .., nullary_bufs_sub .., quaternary_bufs_sub .., quaternary_bufs_sub .., unary_bufs_sub .., nullary_bufs_sub ..,
    unary_bufs_sub .., unary_bufs_sub .., binary_bufs_sub .., unary_bufs_sub .., unary_bufs_sub .., unary_bufs_sub ..,
    binary_bufs_sub .., reshape_bufs_sub .., reshape_bufs_sub .., unary_bufs_sub .., binary_bufs_sub ..⟩

/-- The reference's run: the result at `ref` of the arguments, which are unchanged. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = ref (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v12).trans (out_eq _), (h c main_arg0).trans (arg0_eq _), (h c main_arg1).trans (arg1_eq _)⟩)
    (run_seq no_scoped_refs no_scoped_sems defs main (fun _ => ops) main_eq (fun _ => ops_sub) m ρ)

/-- The reference's frame: its arguments end as they were, and it declares no semaphore. -/
theorem frame_reference : Cert.quiescent_ReferenceIdeal := fun m ρ _ =>
  (θ_run defs _ _).mono (fun r h => ⟨fun c => (h c).2, sem_eq_zero_of_no_sems (by decide) r.2⟩) (run_main m ρ)

end Cert.Proof.Reference

end
-- ==== Proof.Peak.lean ====
/-
  The peak of nine extended reals, as each program finds it.

  For nine values `v 0 … v 8` the peak is the first class at which the greatest value stands. The kernel's running
  maximum and index find it, and the reference's reduction of pairs (value, class) finds it, in whatever order the
  pairs come. Both then leave the value at the peak, times the mask, and zero elsewhere.
-/
module

public import proofs.«01_k».proof.Proof.Lane
public import proofs.«01_k».proof.Proof.Gen.ReferenceIdeal
public import Idealize.ShloMosaic.PureOps.Ideal.Laws

@[expose] public section

noncomputable section

namespace Cert.Proof.Peak

open Idealize.ShloMosaic
open Cert.Proof.Lane (word runMax runIdx chosen)
open Cert.ReferenceIdeal (reducer_argmax_f32_i32)

/-- `k` is the first of `0 … n` at which the greatest of `v 0 … v n` stands. -/
structure First (v : ℕ → EReal) (n k : ℕ) : Prop where
  le : k ≤ n
  top : ∀ j ≤ n, v j ≤ v k
  first : ∀ j < k, v j < v k

/-- There is only one such class. -/
theorem First.eq {v : ℕ → EReal} {n k l : ℕ} (hk : First v n k) (hl : First v n l) : k = l := by
  rcases Nat.lt_trichotomy k l with h | h | h
  · exact absurd (hk.top l hl.le) (not_le.mpr (hl.first k h))
  · exact h
  · exact absurd (hl.top k hk.le) (not_le.mpr (hk.first l h))

/-! ## The class numbers as floats -/

/-- The float words of the class numbers denote them. -/
theorem word_value (n : ℕ) (h : n ≤ 8) : Ideal.ofBits .f32 (word n) = ((n : ℝ) : EReal) := by
  interval_cases n <;> simp [word, Ideal.ofBits, Ideal.ieee, -EReal.coe_mul] <;> norm_num

/-- The word of minus infinity denotes it. -/
theorem minus_infinity : Ideal.ofBits .f32 0xFF800000#32 = ⊥ := by simp [Ideal.ofBits, Ideal.ieee]

theorem word_eq_iff (k c : ℕ) (hk : k ≤ 8) (hc : c ≤ 8) : Ideal.ofBits .f32 (word k) = Ideal.ofBits .f32 (word c) ↔ k = c := by
  rw [word_value k hk, word_value c hc, EReal.coe_eq_coe_iff, Nat.cast_inj]

/-! ## The kernel -/

/-- A choice by a comparison's bit. -/
theorem select_ofBool {α : Type} (p : Prop) [Decidable p] (a b : α) : Scalar.select (BitVec.ofBool (decide p)) a b = if p then a else b := by
  by_cases h : p <;> simp [Scalar.select, h]

/-- The running maximum and index after `n` steps stand at the first of the greatest so far. -/
theorem running (v : ℕ → EReal) (n : ℕ) : ∃ k, First v n k ∧ runMax (F := Ideal) v n = v k
    ∧ runIdx (F := Ideal) v n = Ideal.ofBits .f32 (word k) := by
  induction n with
  | zero => exact ⟨0, ⟨le_refl 0, fun j hj => by rw [Nat.le_zero.mp hj], fun j hj => absurd hj (Nat.not_lt_zero j)⟩, rfl, rfl⟩
  | succ n ih =>
    obtain ⟨k, hk, e1, e2⟩ := ih
    have m1 : runMax (F := Ideal) v (n + 1) = max (v k) (v (n + 1)) := by rw [← e1]; rfl
    have m2 : runIdx (F := Ideal) v (n + 1) = if v k < v (n + 1) then Ideal.ofBits .f32 (word (n + 1)) else Ideal.ofBits .f32 (word k) := by
      rw [← e2, ← e1, ← select_ofBool]; rfl
    by_cases h : v k < v (n + 1)
    · refine ⟨n + 1, ⟨le_refl _, fun j hj => ?_, fun j hj => ?_⟩, by rw [m1, max_eq_right h.le], by rw [m2, if_pos h]⟩
      · rcases Nat.lt_or_eq_of_le hj with g | g
        · exact (hk.top j (Nat.lt_succ_iff.mp g)).trans h.le
        · rw [g]
      · exact (hk.top j (Nat.lt_succ_iff.mp hj)).trans_lt h
    · refine ⟨k, ⟨hk.le.trans (Nat.le_succ n), fun j hj => ?_, hk.first⟩, by rw [m1, max_eq_left (not_lt.mp h)], by rw [m2, if_neg h]⟩
      rcases Nat.lt_or_eq_of_le hj with g | g
      · exact hk.top j (Nat.lt_succ_iff.mp g)
      · rw [g]; exact not_lt.mp h

/-- What the kernel writes at class `c`: the product at the peak, zero elsewhere. -/
theorem chosen_eq (v : ℕ → EReal) (x : EReal) (k c : ℕ) (hk : First v 8 k) (hc : c ≤ 8) :
    chosen (F := Ideal) v x c = if k = c then v c * x else 0 := by
  obtain ⟨k', hk', -, e⟩ := running v 8
  obtain rfl := hk'.eq hk
  have : chosen (F := Ideal) v x c
      = if runIdx (F := Ideal) v 8 = Ideal.ofBits .f32 (word c) then v c * x else Ideal.ofBits .f32 0x00000000#32 := by
    rw [← select_ofBool]; rfl
  rw [this, e, Ideal.ofBits_zero_f32]
  exact if_congr (word_eq_iff _ _ hk.le hc) rfl rfl

/-! ## The reference -/

/-- The pair `r` is a peak of the pairs `L`: one of them, of the greatest value, and of the least index at that value. -/
structure PeakOf (L : List (EReal × BitVec 32)) (r : EReal × BitVec 32) : Prop where
  mem : r ∈ L
  top : ∀ p ∈ L, p.1 ≤ r.1
  first : ∀ p ∈ L, p.1 = r.1 → r.2.toNat ≤ p.2.toNat

/-- One step of the reference's reduction is the peak of its two pairs. -/
theorem step (a b : EReal × BitVec 32) (ha : a.2.toNat < 9) (hb : b.2.toNat < 9) :
    PeakOf [a, b] (reducer_argmax_f32_i32 (F := Ideal) a b) := by
  have e : reducer_argmax_f32_i32 (F := Ideal) a b
      = (if b.1 < a.1 then a.1 else b.1, if b.1 < a.1 ∨ a.1 = b.1 ∧ a.2.toNat < b.2.toNat then a.2 else b.2) := by
    have sl : a.2.slt b.2 = decide (a.2.toNat < b.2.toNat) := by
      rw [BitVec.slt_eq_decide, BitVec.toInt_eq_toNat_of_lt (by omega), BitVec.toInt_eq_toNat_of_lt (by omega)]
      exact decide_eq_decide.mpr Nat.cast_lt
    have c1 : FloatOps.cmpf (F := Ideal) (φ := .f32) .ogt a.1 b.1 = BitVec.ofBool (decide (b.1 < a.1)) := rfl
    have c2 : FloatOps.cmpf (F := Ideal) (φ := .f32) .une a.1 a.1 = BitVec.ofBool (decide (a.1 ≠ a.1)) := rfl
    have c3 : FloatOps.cmpf (F := Ideal) (φ := .f32) .oeq a.1 b.1 = BitVec.ofBool (decide (a.1 = b.1)) := rfl
    have c4 : IntOp.cmpi .slt a.2 b.2 = BitVec.ofBool (decide (a.2.toNat < b.2.toNat)) := by rw [← sl]; rfl
    unfold reducer_argmax_f32_i32
    simp only [c1, c2, c3, c4]
    by_cases h1 : b.1 < a.1 <;> by_cases h2 : a.1 = b.1 <;> by_cases h3 : a.2.toNat < b.2.toNat <;>
      simp [h1, h2, h3, Scalar.select, IntOp.ori, IntOp.andi]
  rw [e]
  obtain ⟨a1, a2⟩ := a
  obtain ⟨b1, b2⟩ := b
  rcases lt_trichotomy a1 b1 with h | h | h
  · have : ¬ b1 < a1 := not_lt.mpr h.le
    have : ¬ a1 = b1 := h.ne
    simp only [*, if_false, false_and, or_false]
    exact ⟨by simp, by simp [h.le], by simp [h.ne]⟩
  · subst h
    by_cases g : a2.toNat < b2.toNat
    · simp only [lt_irrefl, if_false, true_and, false_or, g, if_true]
      exact ⟨by simp, by simp, by simp [g.le]⟩
    · simp only [lt_irrefl, if_false, true_and, false_or, g]
      exact ⟨by simp, by simp, by simp; omega⟩
  · simp only [h, if_true, true_or]
    exact ⟨by simp, by simp [h.le], by simp [h.ne]⟩

/-- So the reduction of a list, from a pair, is the peak of them all. -/
theorem fold_peak (L : List (EReal × BitVec 32)) (r : EReal × BitVec 32) (hr : r.2.toNat < 9) (hL : ∀ p ∈ L, p.2.toNat < 9) :
    PeakOf (r :: L) (L.foldl (reducer_argmax_f32_i32 (F := Ideal)) r) := by
  induction L generalizing r with
  | nil => exact ⟨by simp, by simp, by simp⟩
  | cons b L ih =>
    have s := step r b hr (hL b (by simp))
    have hs : (reducer_argmax_f32_i32 (F := Ideal) r b).2.toNat < 9 := by
      rcases List.mem_pair.mp s.mem with h | h <;> rw [h]
      exacts [hr, hL b (by simp)]
    have t := ih _ hs fun p hp => hL p (by simp [hp])
    rw [List.foldl_cons]
    refine ⟨?_, fun p hp => ?_, fun p hp he => ?_⟩
    · rcases List.mem_cons.mp t.mem with h | h
      · rw [h]
        rcases List.mem_pair.mp s.mem with g | g <;> rw [g] <;> simp
      · simp [h]
    · rcases List.mem_cons.mp hp with h | h
      · exact (s.top p (by simp [h])).trans (t.top _ (by simp))
      · rcases List.mem_cons.mp h with h | h
        · exact (s.top p (by simp [h])).trans (t.top _ (by simp))
        · exact t.top p (by simp [h])
    · have old : ∀ q ∈ [r, b], q.1 = (List.foldl (reducer_argmax_f32_i32 (F := Ideal)) (reducer_argmax_f32_i32 (F := Ideal) r b) L).1 →
          (List.foldl (reducer_argmax_f32_i32 (F := Ideal)) (reducer_argmax_f32_i32 (F := Ideal) r b) L).2.toNat ≤ q.2.toNat := fun q hq e => by
        have g : q.1 = (reducer_argmax_f32_i32 (F := Ideal) r b).1 := le_antisymm (s.top q hq) (e ▸ t.top _ (by simp))
        exact (t.first _ (by simp) (g.symm.trans e)).trans (s.first q hq g)
      rcases List.mem_cons.mp hp with h | h
      · exact old p (by simp [h]) he
      · rcases List.mem_cons.mp h with h | h
        · exact old p (by simp [h]) he
        · exact t.first p (by simp [h]) he

/-- The reduction of the nine pairs of `v`, in any order, from minus infinity at class zero, is at the peak. -/
theorem reduced (v : ℕ → EReal) (k : ℕ) (hk : First v 8 k) (L : List (EReal × BitVec 32))
    (hL : ∀ p, p ∈ L ↔ ∃ n : Fin 9, p = (v n, BitVec.ofNat 32 n)) :
    (L.foldl (reducer_argmax_f32_i32 (F := Ideal)) (⊥, 0#32)).2 = BitVec.ofNat 32 k := by
  have ofN : ∀ n : ℕ, n < 9 → (BitVec.ofNat 32 n).toNat = n := fun n h => by rw [BitVec.toNat_ofNat]; omega
  have hlt : ∀ p ∈ L, p.2.toNat < 9 := fun p hp => by
    obtain ⟨n, rfl⟩ := (hL p).mp hp
    have := n.isLt
    rw [ofN n this]; exact this
  have P := fold_peak L (⊥, 0#32) (by decide) hlt
  generalize L.foldl (reducer_argmax_f32_i32 (F := Ideal)) (⊥, 0#32) = r at P
  have at_ : ∀ n : ℕ, n ≤ 8 → (v n, BitVec.ofNat 32 n) ∈ L := fun n hn => (hL _).mpr ⟨⟨n, by omega⟩, rfl⟩
  -- the pair found is one of the nine
  obtain ⟨l, hl, e⟩ : ∃ l, l ≤ 8 ∧ r = (v l, BitVec.ofNat 32 l) := by
    rcases List.mem_cons.mp P.mem with h | h
    · have h0 : v 0 ≤ ⊥ := by have := P.top _ (List.mem_cons_of_mem _ (at_ 0 (by omega))); rw [h] at this; exact this
      exact ⟨0, by omega, by rw [h, le_bot_iff.mp h0]⟩
    · obtain ⟨n, hn⟩ := (hL r).mp h
      exact ⟨n, by omega, hn⟩
  subst e
  have hf : First v 8 l := ⟨hl, fun j hj => P.top _ (List.mem_cons_of_mem _ (at_ j hj)), fun j hj => by
    refine lt_of_le_of_ne (P.top _ (List.mem_cons_of_mem _ (at_ j (by omega)))) fun e => ?_
    have := P.first _ (List.mem_cons_of_mem _ (at_ j (by omega))) e
    rw [ofN l (by omega), ofN j (by omega)] at this
    omega⟩
  rw [hf.eq hk]

/-- The maximum of the nine is the value at the peak. -/
theorem maximum (v : ℕ → EReal) (k : ℕ) (hk : First v 8 k) :
    (Finset.univ : Finset (Fin 9)).fold max ⊥ (fun n : Fin 9 => v n) = v k := by
  refine le_antisymm ((Finset.fold_max_le _).mpr ⟨bot_le, fun n _ => hk.top n (by omega)⟩) ?_
  exact (Finset.le_fold_max _).mpr (Or.inr ⟨⟨k, by have := hk.le; omega⟩, Finset.mem_univ _, le_refl _⟩)

end Cert.Proof.Peak

end
-- ==== Proof.Rows.lean ====
/-
  The reference's operations read at a place, at the extended reals.

  The flattened scores and the way back, the one-hot array and its product with the maximum, and the two reductions
  along the classes: each at one batch, row, column and class. What is said of a reduction is first said of shapes and
  arrays in general.
-/
module

public import proofs.«01_k».proof.Proof.Reference
public import proofs.«01_k».proof.Proof.Peak
public import Idealize.ShloMosaic.Lib.Pointwise

@[expose] public section

noncomputable section

namespace Cert.Proof.Rows

open Idealize.ShloMosaic
open Cert.ReferenceIdeal (S16384x9x9x9 S16384x81x1x9 S16384x81x1 S16384x81x1x1 S_ reducer_argmax_f32_i32)
open Cert.ReferenceIdeal.Gen
open Cert.Proof.Peak Cert.Proof.Reference

/-! ## In general -/

section Axis
variable {s t u : Shape} {a : Fin s.rank} {α β : Type}

/-- The pairs a reduction along one axis folds over are those along the axis. -/
theorem mem_fiber (h' : s.ReducesTo [a] t) (h : s.Reduces [a] t) (x : s.Idx → α) (y : s.Idx → β) (j : t.Idx) (q : α × β) :
    q ∈ Host.argReduceFiber x y h' j ↔ ∃ n : Fin (s.size a), q = (x (h.lift j n), y (h.lift j n)) := by
  unfold Host.argReduceFiber
  simp only [List.mem_map, List.mem_filter, List.mem_finRange, true_and, decide_eq_true_eq]
  constructor
  · rintro ⟨i, hi, rfl⟩
    rw [Shape.ReducesTo.drop_eq_drop h' h] at hi
    exact ⟨s.rowMajor.symm i a, by rw [← hi, h.lift_drop]⟩
  · rintro ⟨n, rfl⟩
    refine ⟨s.rowMajor (h.lift j n), ?_, ?_⟩
    · rw [Equiv.symm_apply_apply, Shape.ReducesTo.drop_eq_drop h' h]
      exact h.drop_lift j n
    · rw [Equiv.symm_apply_apply]

/-- The coordinate along the axis of the place lifted to `n` is `n`. -/
theorem iota_lift (h : s.Reduces [a] t) (j : t.Idx) (n : Fin (s.size a)) : iotaInDim s 32 a (h.lift j n) = BitVec.ofNat 32 n.val := by
  show BitVec.ofNat 32 (h.liftVal j n.val a) = _
  unfold Shape.Reduces.liftVal
  rw [dif_pos rfl]

/-- An arg-max of extended reals along one axis is the fold, in some order, over the values along it with their coordinates. -/
theorem arg_row (f : EReal × BitVec 32 → EReal × BitVec 32 → EReal × BitVec 32) (x : FVec Ideal s .f32) (ix : FVec Ideal u .f32)
    (iy : IVec u 32) (h' : s.ReducesTo [a] t) (h : s.Reduces [a] t) (hu : 0 < u.numel) (j : t.Idx) (lo : EReal) (zero : BitVec 32)
    (hlo : ix (Shape.Idx.first hu) = lo) (hzero : iy (Shape.Idx.first hu) = zero) : ∃ L : List (EReal × BitVec 32),
    (∀ q, q ∈ L ↔ ∃ n : Fin (s.size a), q = (x (h.lift j n), BitVec.ofNat 32 n.val))
    ∧ Host.argReduce (F := Ideal) (φ := .f32) f x (iotaInDim s 32 a) ix iy h' hu j = L.foldl f (lo, zero) := by
  refine ⟨Host.argReduceFiber x (iotaInDim s 32 a) h' j, fun q => ?_, ?_⟩
  · rw [mem_fiber h' h]
    exact exists_congr fun n => by rw [iota_lift]
  · rw [Ideal.argReduce_eq_reduce2, Host.reduce2_eq_foldl_fiber, hlo, hzero]

/-- A maximum of extended reals along one axis is the maximum of the values along it. -/
theorem max_row (x : FVec Ideal s .f32) (init : FVec Ideal u .f32) (h' : s.ReducesTo [a] t) (h : s.Reduces [a] t) (hu : 0 < u.numel)
    (j : t.Idx) (lo : EReal) (hlo : init (Shape.Idx.first hu) = lo) :
    Host.reduce (FloatOps.maximumf (F := Ideal) (φ := .f32)) x init h' hu j
      = (Finset.univ : Finset (Fin (s.size a))).fold max lo fun n => x (h.lift j n) := by
  subst hlo
  exact Host.reduce_eq_fold_single (max : EReal → EReal → EReal) x init h' h hu j

/-- A product at a place. -/
theorem mulf_at (p q : FVec Ideal s .f32) (i : s.Idx) : mulf p q i = (p i * q i : EReal) := rfl

end Axis

/-! ## The layout -/

/-- The nine scores at a batch, row and column, by class. -/
def nine (x : FVec Ideal S16384x9x9x9 .f32) (b : Fin 16384) (h w : Fin 9) (n : ℕ) : EReal :=
  x (ix4 b (⟨min n 8, by omega⟩ : Fin 9) h w)

/-- The row of the flattened scores that holds them. -/
abbrev flat (h w : Fin 9) : Fin 81 := ⟨9 * w.val + h.val, by omega⟩

/-- The reference's flattened scores hold the nine of `(b, ·, h, w)` along the classes. -/
theorem scores_at (x : FVec Ideal S16384x9x9x9 .f32) (b : Fin 16384) (h w : Fin 9) (n : Fin 9) :
    scores x (ix4 b (flat h w) (0 : Fin 1) n) = nine x b h w n := by
  unfold nine
  pointwise [scores]
  have e1 : (⟨min n.val 8, by omega⟩ : Fin 9) = n := Fin.ext (by show min n.val 8 = n.val; omega)
  have e2 : (⟨(9 * w.val + h.val) % 9, by omega⟩ : Fin 9) = h := Fin.ext (by show (9 * w.val + h.val) % 9 = h.val; omega)
  have e3 : (⟨(9 * w.val + h.val) / 9, by omega⟩ : Fin 9) = w := Fin.ext (by show (9 * w.val + h.val) / 9 = w.val; omega)
  rw [e1, e2, e3]

/-- The way back reads the same row. -/
theorem unflat_at (p : FVec Ideal S16384x81x1x9 .f32) (b : Fin 16384) (c h w : Fin 9) :
    unflat p (ix4 b c h w) = p (ix4 b (flat h w) (0 : Fin 1) c) := by
  pointwise [unflat]
  have e : (⟨w.val * 9 + h.val, by omega⟩ : Fin 81) = flat h w := Fin.ext (by show w.val * 9 + h.val = 9 * w.val + h.val; omega)
  rw [e]

/-- The one-hot array at a place. -/
theorem oneHot_at (i : IVec S16384x81x1 32) (b : Fin 16384) (p : Fin 81) (c : Fin 9) :
    oneHot (F := Ideal) i (ix4 b p (0 : Fin 1) c) = if i (ix3 b p (0 : Fin 1)) = BitVec.ofNat 32 c then (1 : EReal) else 0 := by
  pointwise [oneHot]
  by_cases e : i (ix3 b p (0 : Fin 1)) = BitVec.ofNat 32 c
  · rw [if_pos e, e]
    show (((IntOp.cmpi .eq (BitVec.ofNat 32 c.val) (BitVec.ofNat 32 c.val)).toNat : ℝ) : EReal) = 1
    simp [IntOp.cmpi]
  · rw [if_neg e]
    show (((IntOp.cmpi .eq (i (ix3 b p (0 : Fin 1))) (BitVec.ofNat 32 c.val)).toNat : ℝ) : EReal) = 0
    simp [IntOp.cmpi, e]

/-- A row's value broadcast along the classes, at a place. -/
theorem along_at (v : FVec Ideal S16384x81x1 .f32) (b : Fin 16384) (p : Fin 81) (c : Fin 9) :
    broadcastInDim S16384x81x1x9 ![0, 1, 2, 3] bcast_S16384x81x1x1_S16384x81x1x9_0_1_2_3
        (broadcastInDim S16384x81x1x1 ![0, 1, 2] bcast_S16384x81x1_S16384x81x1x1_0_1_2 v) (ix4 b p (0 : Fin 1) c)
      = v (ix3 b p (0 : Fin 1)) := by
  pointwise

/-- The one-hot array times the maximum at a place. -/
theorem peaks_at (s : FVec Ideal S16384x81x1x9 .f32) (b : Fin 16384) (p : Fin 81) (c : Fin 9) :
    peaks s (ix4 b p (0 : Fin 1) c)
      = ((if topAt s (ix3 b p (0 : Fin 1)) = BitVec.ofNat 32 c then (1 : EReal) else 0) * top s (ix3 b p (0 : Fin 1)) : EReal) := by
  unfold peaks
  rw [mulf_at, oneHot_at, along_at]

/-! ## The reductions -/

theorem reduces : S16384x81x1x9.Reduces [3] S16384x81x1 := by decide

theorem lift_at (b : Fin 16384) (p : Fin 81) (n : Fin 9) : reduces.lift (ix3 b p (0 : Fin 1)) n = ix4 b p (0 : Fin 1) n := by
  refine funext fun a => Fin.ext ?_
  match a with
  | 0 => rfl
  | 1 => rfl
  | 2 => rfl
  | 3 => rfl

/-- The maximum of a row is that of its nine values. -/
theorem top_at (s : FVec Ideal S16384x81x1x9 .f32) (b : Fin 16384) (p : Fin 81) :
    top s (ix3 b p (0 : Fin 1)) = (Finset.univ : Finset (Fin 9)).fold max ⊥ fun n => s (ix4 b p (0 : Fin 1) n) := by
  unfold top
  rw [max_row s _ reducesTo_S16384x81x1x9_S16384x81x1_d3 reduces h_S_ _ ⊥ minus_infinity]
  exact congrArg (fun v => (Finset.univ : Finset (Fin 9)).fold max ⊥ v) (funext fun n => congrArg s (lift_at b p n))

/-- The arg-max as the class of the reduction's pair. -/
theorem topAt_eq (s : FVec Ideal S16384x81x1x9 .f32) : topAt s = fun j =>
    (Host.argReduce (F := Ideal) (φ := .f32) (reducer_argmax_f32_i32 (F := Ideal)) s (iotaInDim S16384x81x1x9 32 3)
      (constant (F := Ideal) S_ .f32 0xFF800000#32) (constantI S_ 32 0#32) reducesTo_S16384x81x1x9_S16384x81x1_d3 h_S_ j).2 := rfl

/-- The arg-max of a row is the reduction of its nine pairs, in some order. -/
theorem topAt_at (s : FVec Ideal S16384x81x1x9 .f32) (b : Fin 16384) (p : Fin 81) : ∃ L : List (EReal × BitVec 32),
    (∀ q, q ∈ L ↔ ∃ n : Fin 9, q = (s (ix4 b p (0 : Fin 1) n), BitVec.ofNat 32 n.val))
    ∧ topAt s (ix3 b p (0 : Fin 1)) = (L.foldl (reducer_argmax_f32_i32 (F := Ideal)) (⊥, 0#32)).2 := by
  obtain ⟨L, hL, e⟩ := arg_row (reducer_argmax_f32_i32 (F := Ideal)) s (constant (F := Ideal) S_ .f32 0xFF800000#32) (constantI S_ 32 0#32)
    reducesTo_S16384x81x1x9_S16384x81x1_d3 reduces h_S_ (ix3 b p (0 : Fin 1)) ⊥ 0#32 minus_infinity rfl
  refine ⟨L, fun q => (hL q).trans (exists_congr fun n => ?_), ?_⟩
  · exact iff_of_eq (congrArg (fun i => q = (s i, BitVec.ofNat 32 n.val)) (lift_at b p n))
  · exact (congrFun (topAt_eq s) _).trans (congrArg Prod.snd e)

end Cert.Proof.Rows

end
-- ==== Proof.Value.lean ====
/-
  The value equation: at every place the kernel and the reference leave the same extended real.

  Both leave, at batch `b`, class `c`, row `h` and column `w`, the score times the mask where `c` is the peak of the
  nine scores at `(b, ·, h, w)`, and zero elsewhere.
-/
module

public import proofs.«01_k».proof.Proof.Run
public import proofs.«01_k».proof.Proof.Rows
public import Idealize.ShloMosaic.Lib.Pointwise

@[expose] public section

noncomputable section

namespace Cert.Proof.Value

open Idealize.ShloMosaic Idealize.ShloMosaic.TcCoe Idealize.SL.Sem
open Cert.ReferenceIdeal (S16384x9x9x9)
open Cert.ReferenceIdeal.Gen
open Cert.Proof.Peak Cert.Proof.Reference Cert.Proof.Rows

/-! ## The two programs at a place -/

/-- What the reference leaves at a place. -/
theorem ref_at (x y : FVec Ideal S16384x9x9x9 .f32) (b : Fin 16384) (c h w : Fin 9) (k : ℕ) (hk : First (nine x b h w) 8 k) :
    ref x y (ix4 b c h w) = if k = c.val then nine x b h w c * y (ix4 b c h w) else 0 := by
  obtain ⟨L, hL, eL⟩ := topAt_at (scores x) b (flat h w)
  have hL' : ∀ q, q ∈ L ↔ ∃ n : Fin 9, q = (nine x b h w n, BitVec.ofNat 32 n) := fun q =>
    (hL q).trans (exists_congr fun n => by rw [scores_at])
  have et : top (scores x) (ix3 b (flat h w) (0 : Fin 1)) = nine x b h w k := by
    rw [top_at, ← maximum _ k hk]
    exact congrArg (fun v => (Finset.univ : Finset (Fin 9)).fold max ⊥ v) (funext fun n => scores_at x b h w n)
  unfold ref
  rw [mulf_at, unflat_at, peaks_at, eL, reduced _ k hk L hL', et]
  have hk8 := hk.le
  have hc := c.isLt
  by_cases g : k = c.val
  · rw [if_pos g, if_pos (by rw [g]), g, one_mul]
  · have : BitVec.ofNat 32 k ≠ BitVec.ofNat 32 c.val := fun e => g (by
      have := congrArg BitVec.toNat e
      rw [BitVec.toNat_ofNat, BitVec.toNat_ofNat] at this
      omega)
    rw [if_neg g, if_neg this, zero_mul, zero_mul]

/-- The transposes at a place: the batch last, -/
theorem toLanes_at (x : FVec Ideal S16384x9x9x9 .f32) (c h w : Fin 9) (b : Fin 16384) :
    Launch.toLanes (F := Ideal) x (ix4 c h w b) = x (ix4 b c h w) := by
  unfold Launch.toLanes
  pointwise
/-- and back at the front. -/
theorem fromLanes_at (x : FVec Ideal Cert.KernelIdeal.S9x9x9x16384 .f32) (c h w : Fin 9) (b : Fin 16384) :
    Launch.fromLanes (F := Ideal) x (ix4 b c h w) = x (ix4 c h w b) := by
  unfold Launch.fromLanes
  pointwise

/-- A column of the kernel's array is the nine scores. -/
theorem column_at (x : FVec Ideal S16384x9x9x9 .f32) (c h w : Fin 9) (b : Fin 16384) (n : ℕ) :
    Launch.toLanes (F := Ideal) x (Bands.column (ix4 c h w b) n) = nine x b h w n := by
  have e : Bands.column (ix4 c h w b) n = ix4 (⟨min n 8, by omega⟩ : Fin 9) h w b := by
    funext a
    match a with
    | 0 => rfl
    | 1 => rfl
    | 2 => rfl
    | 3 => rfl
  rw [e, toLanes_at]
  rfl

/-- What the kernel leaves at a place. -/
theorem kernel_at (x y : FVec Ideal S16384x9x9x9 .f32) (b : Fin 16384) (c h w : Fin 9) :
    Launch.fromLanes (F := Ideal) (Bands.result (F := Ideal) (Launch.toLanes x) (Launch.toLanes y)) (ix4 b c h w)
      = Lane.chosen (F := Ideal) (nine x b h w) (y (ix4 b c h w)) c.val := by
  rw [fromLanes_at]
  unfold Bands.result
  rw [toLanes_at]
  exact congrArg (fun v => Lane.chosen (F := Ideal) v (y (ix4 b c h w)) c.val) (funext fun n => column_at x c h w b n)

/-- The two programs leave the same array. -/
theorem equal (x y : FVec Ideal S16384x9x9x9 .f32) :
    Launch.fromLanes (F := Ideal) (Bands.result (F := Ideal) (Launch.toLanes x) (Launch.toLanes y)) = ref x y := by
  funext j
  obtain ⟨b, c, h, w, rfl⟩ : ∃ (b : Fin 16384) (c h w : Fin 9), j = ix4 b c h w := ⟨j 0, j 1, j 2, j 3, eq_ix4 j⟩
  obtain ⟨k, hk, -, -⟩ := running (nine x b h w) 8
  rw [kernel_at, ref_at _ _ _ _ _ _ k hk]
  exact chosen_eq _ _ k c.val hk (by have := c.isLt; omega)

/-- The value claim: from equal arguments both programs run and leave equal results. -/
theorem algebraic : Cert.algebraic_KernelIdeal_ReferenceIdeal := by
  intro m g m' g' _ hargs
  refine ⟨fun c => Run.out (F := Ideal) m c, ?_, ?_⟩
  · exact (θ_run Cert.KernelIdeal.defs _ _).mono (fun _ h c => ⟨(h.1 c).2.2, (h.1 c).1, (h.1 c).2.1⟩) (Run.run_main m g)
  · refine (θ_run Cert.ReferenceIdeal.defs _ _).mono (fun _ h c => ⟨(h c).1.trans ?_, (h c).2⟩) (Reference.run_main m' g')
    rw [(hargs c).1, (hargs c).2]
    exact (equal _ _).symm

end Cert.Proof.Value

end
-- ==== Proof.lean ====
/-
  The certificate: the kernel as written and its exact reading leave their arguments and every semaphore as they were,
  so does the reference, and over the extended reals the kernel's result is the reference's, element by element.

  The kernel's run is Proof/Run.lean's, once for any float values; the reference's is Proof/Reference.lean's; that the
  two results are equal is Proof/Value.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value

@[expose] public section

noncomputable section

namespace Cert.Proof

/-- Everything claimed. -/
theorem claim : Cert.Claim :=
  ⟨Cert.Kernel.Gen.facts, Cert.KernelIdeal.Gen.facts, Cert.ReferenceIdeal.Gen.facts,
    Run.frame_kernel, Run.frame_exact, Reference.frame_reference, trivial, Value.algebraic⟩

end Cert.Proof

end
